-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x512x6144 : Shape := ⟨3, ![24, 512, 6144]⟩
abbrev S1024x6144 : Shape := ⟨2, ![1024, 6144]⟩
abbrev S16x6144 : Shape := ⟨2, ![16, 6144]⟩
abbrev S12288x6144 : Shape := ⟨2, ![12288, 6144]⟩
abbrev S12288x2048 : Shape := ⟨2, ![12288, 2048]⟩
abbrev S12288x3072 : Shape := ⟨2, ![12288, 3072]⟩
abbrev S12288x48 : Shape := ⟨2, ![12288, 48]⟩
abbrev S256x6144 : Shape := ⟨2, ![256, 6144]⟩
abbrev S256x2048 : Shape := ⟨2, ![256, 2048]⟩
abbrev S256x3072 : Shape := ⟨2, ![256, 3072]⟩
abbrev S256x48 : Shape := ⟨2, ![256, 48]⟩
abbrev S2048x6144 : Shape := ⟨2, ![2048, 6144]⟩
abbrev S6144x256 : Shape := ⟨2, ![6144, 256]⟩
abbrev S48x256 : Shape := ⟨2, ![48, 256]⟩
abbrev S64x6144 : Shape := ⟨2, ![64, 6144]⟩
abbrev S64x1x6144 : Shape := ⟨3, ![64, 1, 6144]⟩
abbrev S64x2x6144 : Shape := ⟨3, ![64, 2, 6144]⟩
abbrev S128x6144 : Shape := ⟨2, ![128, 6144]⟩
abbrev S1x6144 : Shape := ⟨2, ![1, 6144]⟩
abbrev S256x128 : Shape := ⟨2, ![256, 128]⟩
abbrev S128x256 : Shape := ⟨2, ![128, 256]⟩
abbrev S16x256 : Shape := ⟨2, ![16, 256]⟩
abbrev S256 : Shape := ⟨1, ![256]⟩
abbrev S1x256 : Shape := ⟨2, ![1, 256]⟩
abbrev S64x256 : Shape := ⟨2, ![64, 256]⟩
abbrev S512x6144 : Shape := ⟨2, ![512, 6144]⟩
abbrev S512x256 : Shape := ⟨2, ![512, 256]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S24x512x6144, .bf16⟩
  | .hbm, ⟨1, _⟩ => ⟨S1024x6144, .i8⟩
  | .hbm, ⟨2, _⟩ => ⟨S16x6144, .f32⟩
  | .hbm, ⟨3, _⟩ => ⟨S12288x6144, .bf16⟩
  | .hbm, ⟨4, _⟩ => ⟨S12288x2048, .bf16⟩
  | .hbm, ⟨5, _⟩ => ⟨S12288x3072, .i8⟩
  | .hbm, ⟨6, _⟩ => ⟨S12288x48, .f32⟩
  | .hbm, ⟨7, _⟩ => ⟨S12288x48, .i8⟩
  | .local _ .vmem, ⟨0, _⟩ => ⟨S256x6144, .bf16⟩
  | .local _ .vmem, ⟨1, _⟩ => ⟨S256x6144, .bf16⟩
  | .local _ .vmem, ⟨2, _⟩ => ⟨S1024x6144, .i8⟩
  | .local _ .vmem, ⟨3, _⟩ => ⟨S16x6144, .f32⟩
  | .local _ .vmem, ⟨4, _⟩ => ⟨S256x2048, .bf16⟩
  | .local _ .vmem, ⟨5, _⟩ => ⟨S256x2048, .bf16⟩
  | .local _ .vmem, ⟨6, _⟩ => ⟨S256x3072, .i8⟩
  | .local _ .vmem, ⟨7, _⟩ => ⟨S256x3072, .i8⟩
  | .local _ .vmem, ⟨8, _⟩ => ⟨S256x48, .f32⟩
  | .local _ .vmem, ⟨9, _⟩ => ⟨S256x48, .f32⟩
  | .local _ .vmem, ⟨10, _⟩ => ⟨S256x48, .i8⟩
  | .local _ .vmem, ⟨11, _⟩ => ⟨S256x48, .i8⟩
  | .local _ .vmem, ⟨12, _⟩ => ⟨S2048x6144, .bf16⟩
  | .local _ .vmem, ⟨13, _⟩ => ⟨S6144x256, .bf16⟩
  | .local _ .vmem, ⟨14, _⟩ => ⟨S48x256, .f32⟩
  | .local _ .vmem, ⟨15, _⟩ => ⟨S48x256, .f32⟩
  | _, _ => ⟨S24x512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1018 : BitVec 32 := 0#32
  let c16_i32 : BitVec 32 := 16#32
  let v4355 : BitVec 32 := Scalar.addi c0_i32_1018 c16_i32
  let c1_i32 : BitVec 32 := 1#32
  ⟨c0_i32_1018, v4355, c1_i32⟩
def k0_off1 (k0_t1 : Fin k0_t1_loop.trips) : Fin 2 → Nat :=
  let c0_i32_1018 : BitVec 32 := 0#32
  let c1_i32 : BitVec 32 := 1#32
  let arg12 : BitVec 32 := Scf.iv c0_i32_1018 c1_i32 k0_t1
  let c64_i32 : BitVec 32 := 64#32
  let v4356 : BitVec 32 := Scalar.muli arg12 c64_i32
  let v4357 : Index := Scalar.indexCast v4356
  let c0_1020 : Index := 0#32
  ![v4357.toNat, 0]
def k0_off2 (k0_t1 : Fin k0_t1_loop.trips) : Fin 2 → Nat :=
  let c0_i32_1018 : BitVec 32 := 0#32
  let c1_i32 : BitVec 32 := 1#32
  let arg12 : BitVec 32 := Scf.iv c0_i32_1018 c1_i32 k0_t1
  let v4370 : Index := Scalar.indexCast arg12
  let c0_1022 : Index := 0#32
  ![v4370.toNat, 0]
def k0_off3 (k0_t1 : Fin k0_t1_loop.trips) : Fin 2 → Nat :=
  let c0_i32_1018 : BitVec 32 := 0#32
  let c1_i32 : BitVec 32 := 1#32
  let arg12 : BitVec 32 := Scf.iv c0_i32_1018 c1_i32 k0_t1
  let c128_i32 : BitVec 32 := 128#32
  let v4376 : BitVec 32 := Scalar.muli arg12 c128_i32
  let v4377 : Index := Scalar.indexCast v4376
  let c0_1023 : Index := 0#32
  ![v4377.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x48 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S24x512x6144 : Shape := ⟨3, ![24, 512, 6144]⟩
abbrev S1024x6144 : Shape := ⟨2, ![1024, 6144]⟩
abbrev S16x6144 : Shape := ⟨2, ![16, 6144]⟩
abbrev S24x512x48x128 : Shape := ⟨4, ![24, 512, 48, 128]⟩
abbrev S_ : Shape := ⟨0, ![]⟩
abbrev S24x512x48 : Shape := ⟨3, ![24, 512, 48]⟩
abbrev S24x512x48x1 : Shape := ⟨4, ![24, 512, 48, 1]⟩
abbrev S24x512x3072 : Shape := ⟨3, ![24, 512, 3072]⟩
abbrev S16x64x6144 : Shape := ⟨3, ![16, 64, 6144]⟩
abbrev S24x512x1024 : Shape := ⟨3, ![24, 512, 1024]⟩
abbrev S24x512x1024x1 : Shape := ⟨4, ![24, 512, 1024, 1]⟩
abbrev S24x512x1024x2 : Shape := ⟨4, ![24, 512, 1024, 2]⟩
abbrev S24x512x2048 : Shape := ⟨3, ![24, 512, 2048]⟩
abbrev S12288x2048 : Shape := ⟨2, ![12288, 2048]⟩
abbrev S12288x3072 : Shape := ⟨2, ![12288, 3072]⟩
abbrev S12288x48 : Shape := ⟨2, ![12288, 48]⟩

abbrev nBuf : Space → Nat
  | .hbm => 105
  | .vmem => 0
  | .smem => 0
  | _ => 0

abbrev bufTy : (tb : Table) → Fin (tcTables nBuf tb) → BufTy
  | .hbm, ⟨0, _⟩ => ⟨S24x512x6144, .bf16⟩
  | .hbm, ⟨1, _⟩ => ⟨S1024x6144, .i8⟩
  | .hbm, ⟨2, _⟩ => ⟨S16x6144, .f32⟩
  | .hbm, ⟨3, _⟩ => ⟨S24x512x6144, .f32⟩
  | .hbm, ⟨4, _⟩ => ⟨S24x512x48x128, .f32⟩
  | .hbm, ⟨5, _⟩ => ⟨S_, .f32⟩
  | .hbm, ⟨6, _⟩ => ⟨S24x512x48, .f32⟩
  | .hbm, ⟨7, _⟩ => ⟨S_, .f32⟩
  | .hbm, ⟨8, _⟩ => ⟨S24x512x48, .f32⟩
  | .hbm, ⟨9, _⟩ => ⟨S24x512x48, .f32⟩
  | .hbm, ⟨10, _⟩ => ⟨S_, .f32⟩
  | .hbm, ⟨11, _⟩ => ⟨S24x512x48, .f32⟩
  | .hbm, ⟨12, _⟩ => ⟨S_, .f32⟩
  | .hbm, ⟨13, _⟩ => ⟨S24x512x48, .f32⟩
  | .hbm, ⟨14, _⟩ => ⟨S24x512x48, .f32⟩
  | .hbm, ⟨15, _⟩ => ⟨S24x512x48, .i1⟩
  | .hbm, ⟨16, _⟩ => ⟨S24x512x48, .f32⟩
  | .hbm, ⟨17, _⟩ => ⟨S_, .f32⟩
  | .hbm, ⟨18, _⟩ => ⟨S24x512x48, .f32⟩
  | .hbm, ⟨19, _⟩ => ⟨S24x512x48, .f32⟩
  | .hbm, ⟨20, _⟩ => ⟨S_, .f32⟩
  | .hbm, ⟨21, _⟩ => ⟨S_, .f32⟩
  | .hbm, ⟨22, _⟩ => ⟨S24x512x48, .f32⟩
  | .hbm, ⟨23, _⟩ => ⟨S24x512x48, .f32⟩
  | .hbm, ⟨24, _⟩ => ⟨S24x512x48, .f32⟩
  | .hbm, ⟨25, _⟩ => ⟨S24x512x48, .f32⟩
  | .hbm, ⟨26, _⟩ => ⟨S24x512x48, .f32⟩
  | .hbm, ⟨27, _⟩ => ⟨S24x512x48x1, .f32⟩
  | .hbm, ⟨28, _⟩ => ⟨S24x512x48x128, .f32⟩
  | .hbm, ⟨29, _⟩ => ⟨S24x512x48x128, .f32⟩
  | .hbm, ⟨30, _⟩ => ⟨S24x512x48x128, .f32⟩
  | .hbm, ⟨31, _⟩ => ⟨S24x512x48x1, .f32⟩
  | .hbm, ⟨32, _⟩ => ⟨S24x512x48x128, .f32⟩
  | .hbm, ⟨33, _⟩ => ⟨S24x512x48x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S24x512x48x128, .f32⟩
  | .hbm, ⟨38, _⟩ => ⟨S24x512x48x128, .f32⟩
  | .hbm, ⟨39, _⟩ => ⟨S_, .f32⟩
  | .hbm, ⟨40, _⟩ => ⟨S24x512x48x128, .f32⟩
  | .hbm, ⟨41, _⟩ => ⟨S24x512x48x128, .f32⟩
  | .hbm, ⟨42, _⟩ => ⟨S24x512x48x128, .i32⟩
  | .hbm, ⟨43, _⟩ => ⟨S24x512x48x128, .i8⟩
  | .hbm, ⟨44, _⟩ => ⟨S24x512x48, .i32⟩
  | .hbm, ⟨45, _⟩ => ⟨S24x512x48, .i8⟩
  | .hbm, ⟨46, _⟩ => ⟨S24x512x6144, .i8⟩
  | .hbm, ⟨47, _⟩ => ⟨S24x512x6144, .i32⟩
  | .hbm, ⟨48, _⟩ => ⟨S24x512x3072, .i32⟩
  | .hbm, ⟨49, _⟩ => ⟨S24x512x3072, .i32⟩
  | .hbm, ⟨50, _⟩ => ⟨S_, .i32⟩
  | .hbm, ⟨51, _⟩ => ⟨S24x512x3072, .i32⟩
  | .hbm, ⟨52, _⟩ => ⟨S24x512x3072, .i32⟩
  | .hbm, ⟨53, _⟩ => ⟨S24x512x3072, .i32⟩
  | .hbm, ⟨54, _⟩ => ⟨S24x512x3072, .i8⟩
  | .hbm, ⟨55, _⟩ => ⟨S24x512x48x128, .i32⟩
  | .hbm, ⟨56, _⟩ => ⟨S24x512x48, .i32⟩
  | .hbm, ⟨57, _⟩ => ⟨S24x512x48x1, .i32⟩
  | .hbm, ⟨58, _⟩ => ⟨S24x512x48x128, .i32⟩
  | .hbm, ⟨59, _⟩ => ⟨S24x512x48x128, .i32⟩
  | .hbm, ⟨60, _⟩ => ⟨S24x512x48x128, .bf16⟩
  | .hbm, ⟨61, _⟩ => ⟨S24x512x48, .bf16⟩
  | .hbm, ⟨62, _⟩ => ⟨S24x512x48x1, .bf16⟩
  | .hbm, ⟨63, _⟩ => ⟨S24x512x48x128, .bf16⟩
  | .hbm, ⟨64, _⟩ => ⟨S24x512x48x128, .bf16⟩
  | .hbm, ⟨65, _⟩ => ⟨S24x512x6144, .bf16⟩
  | .hbm, ⟨66, _⟩ => ⟨S1024x6144, .i32⟩
  | .hbm, ⟨67, _⟩ => ⟨S16x6144, .bf16⟩
  | .hbm, ⟨68, _⟩ => ⟨S16x64x6144, .bf16⟩
  | .hbm, ⟨69, _⟩ => ⟨S1024x6144, .bf16⟩
  | .hbm, ⟨70, _⟩ => ⟨S_, .i32⟩
  | .hbm, ⟨71, _⟩ => ⟨S1024x6144, .i32⟩
  | .hbm, ⟨72, _⟩ => ⟨S1024x6144, .i32⟩
  | .hbm, ⟨73, _⟩ => ⟨S_, .i32⟩
  | .hbm, ⟨74, _⟩ => ⟨S1024x6144, .i32⟩
  | .hbm, ⟨75, _⟩ => ⟨S1024x6144, .i1⟩
  | .hbm, ⟨76, _⟩ => ⟨S_, .i32⟩
  | .hbm, ⟨77, _⟩ => ⟨S1024x6144, .i32⟩
  | .hbm, ⟨78, _⟩ => ⟨S1024x6144, .i32⟩
  | .hbm, ⟨79, _⟩ => ⟨S1024x6144, .i32⟩
  | .hbm, ⟨80, _⟩ => ⟨S1024x6144, .bf16⟩
  | .hbm, ⟨81, _⟩ => ⟨S1024x6144, .bf16⟩
  | .hbm, ⟨82, _⟩ => ⟨S_, .i32⟩
  | .hbm, ⟨83, _⟩ => ⟨S1024x6144, .i32⟩
  | .hbm, ⟨84, _⟩ => ⟨S1024x6144, .i32⟩
  | .hbm, ⟨85, _⟩ => ⟨S_, .i32⟩
  | .hbm, ⟨86, _⟩ => ⟨S1024x6144, .i32⟩
  | .hbm, ⟨87, _⟩ => ⟨S1024x6144, .i1⟩
  | .hbm, ⟨88, _⟩ => ⟨S_, .i32⟩
  | .hbm, ⟨89, _⟩ => ⟨S1024x6144, .i32⟩
  | .hbm, ⟨90, _⟩ => ⟨S1024x6144, .i32⟩
  | .hbm, ⟨91, _⟩ => ⟨S1024x6144, .i32⟩
  | .hbm, ⟨92, _⟩ => ⟨S1024x6144, .bf16⟩
  | .hbm, ⟨93, _⟩ => ⟨S1024x6144, .bf16⟩
  | .hbm, ⟨94, _⟩ => ⟨S24x512x1024, .f32⟩
  | .hbm, ⟨95, _⟩ => ⟨S24x512x1024, .f32⟩
  | .hbm, ⟨96, _⟩ => ⟨S24x512x1024x1, .f32⟩
  | .hbm, ⟨97, _⟩ => ⟨S24x512x1024x1, .f32⟩
  | .hbm, ⟨98, _⟩ => ⟨S24x512x1024x2, .f32⟩
  | .hbm, ⟨99, _⟩ => ⟨S24x512x2048, .f32⟩
  | .hbm, ⟨100, _⟩ => ⟨S24x512x2048, .bf16⟩
  | .hbm, ⟨101, _⟩ => ⟨S12288x2048, .bf16⟩
  | .hbm, ⟨102, _⟩ => ⟨S12288x3072, .i8⟩
  | .hbm, ⟨103, _⟩ => ⟨S12288x48, .f32⟩
  | .hbm, ⟨104, _⟩ => ⟨S12288x48, .i8⟩
  | _, _ => ⟨S24x512x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Proof.Group.lean ====
/-
  The arithmetic of one quantisation group over the extended reals: a group's bounds, its scale, its zero point and
  the code of a value in it. The zero point and every code are whole numbers from 0 to 15 whatever the data are, the
  infinities included; the kernel's way of writing them (a product with the reciprocal of the scale, a clip shifted by
  the zero point) gives the same whole numbers as the reference's way. The last part reads the packed forms: a byte
  that holds two codes, and a byte of two signed 4-bit weights.
-/
module

public import Idealize.ShloMosaic.Lib.Pointwise

@[expose] public section

noncomputable section

namespace Cert.Proof.Group

open Idealize.ShloMosaic

/-- Rounding to the nearest whole number, ties to even, on extended reals. -/
def rnd (x : EReal) : EReal := Ideal.liftRound Ideal.roundHalfEven x

/-- A group's lower bound: its least value, or zero when that is positive. -/
def lo (f : Fin 128 → EReal) : EReal := min (Finset.univ.inf f) 0

/-- A group's upper bound: its greatest value, or zero when that is negative. -/
def hi (f : Fin 128 → EReal) : EReal := max (Finset.univ.sup f) 0

/-- The scale of a group with bounds `l` and `h`. -/
def scaleOf (l h : EReal) : EReal := if h = l then 1 else Ideal.div (h - l) 15

/-- A group's scale. -/
def scale (f : Fin 128 → EReal) : EReal := scaleOf (lo f) (hi f)

/-- The clamped minimum is at most zero. -/
theorem lo_nonpos (f : Fin 128 → EReal) : lo f ≤ 0 := min_le_right _ _
/-- The clamped maximum is at least zero. -/
theorem hi_nonneg (f : Fin 128 → EReal) : 0 ≤ hi f := le_max_right _ _

/-- Fifteen, as a real. -/
theorem fifteen : (15 : EReal) = ((15 : ℝ) : EReal) := by norm_cast

/-- Dividing by fifteen is multiplying by a positive real. -/
theorem div_fifteen (x : EReal) : Ideal.div x 15 = x * ((1 / 15 : ℝ) : EReal) := by
  rw [fifteen, Ideal.div_coe (by norm_num)]

/-- A scale is positive. -/
theorem scaleOf_pos (l h : EReal) (hl : l ≤ 0) (hh : 0 ≤ h) : 0 < scaleOf l h := by
  unfold scaleOf
  split_ifs with e
  · exact zero_lt_one
  · rw [div_fifteen]
    have hlt : l < h := lt_of_le_of_ne (hl.trans hh) (Ne.symm e)
    have h0 : 0 < h - l := by
      rcases lt_or_eq_of_le hl with h1 | h1
      · exact EReal.sub_pos.2 hlt
      · exact EReal.sub_pos.2 hlt
    exact EReal.mul_pos h0 (by norm_cast; norm_num)

/-- Division by a scale is the product with its inverse. -/
theorem div_scale (f : Fin 128 → EReal) (x : EReal) : Ideal.div x (scale f) = x * (scale f)⁻¹ := by
  have := scaleOf_pos (lo f) (hi f) (lo_nonpos f) (hi_nonneg f)
  rw [Ideal.div, if_neg (show scale f ≠ 0 from ne_of_gt this)]

/-- The kernel's form: the product with one over the scale is the quotient by it. -/
theorem mul_recip (f : Fin 128 → EReal) (x : EReal) : x * Ideal.div 1 (scale f) = Ideal.div x (scale f) := by
  rw [div_scale, div_scale, one_mul]

/-- Rounding keeps a number between its integer bounds. -/
theorem roundHalfEven_mem (r : ℝ) (n : ℤ) (h0 : 0 ≤ r) (hn : r ≤ n) :
    0 ≤ Ideal.roundHalfEven r ∧ Ideal.roundHalfEven r ≤ n := by
  have hf : 0 ≤ ⌊r⌋ := Int.floor_nonneg.2 h0
  have hle : ⌊r⌋ ≤ n := by exact_mod_cast (Int.floor_le r).trans hn
  have key : (Ideal.roundHalfEven r = ⌊r⌋) ∨ (Ideal.roundHalfEven r = ⌊r⌋ + 1 ∧ ⌊r⌋ ≠ n) := by
    unfold Ideal.roundHalfEven
    simp only
    by_cases e : ⌊r⌋ = n
    · left
      have : r - ⌊r⌋ < 1 / 2 := by rw [e]; linarith
      rw [if_pos this]
    · split_ifs <;> simp [e]
  rcases key with h | ⟨h, h'⟩ <;> rw [h] <;> constructor <;> omega

/-- The zero point of any bounds around zero is a whole number from 0 to 15. -/
theorem zero_point (l h : EReal) (hl : l ≤ 0) (hh : 0 ≤ h) :
    ∃ z : ℕ, z ≤ 15 ∧ rnd (Ideal.div (-l) (scaleOf l h)) = ((z : ℝ) : EReal) := by
  have hz0 : rnd 0 = ((0 : ℕ) : ℝ) := by
    show Ideal.liftRound Ideal.roundHalfEven ((0 : ℝ) : EReal) = _
    rw [Ideal.liftRound_coe]; simp [Ideal.roundHalfEven]
  have htop : ∀ x : EReal, scaleOf l h = ⊤ → rnd (Ideal.div x (scaleOf l h)) = ((0 : ℕ) : ℝ) := by
    intro x e
    rw [e, Ideal.div, if_neg (by simp), EReal.inv_top, mul_zero, hz0]
  have tp : (⊤ : EReal) * ((1 / 15 : ℝ) : EReal) = ⊤ := EReal.top_mul_coe_of_pos (by norm_num)
  induction l using EReal.rec with
  | top => exact absurd hl (by simp)
  | bot =>
    refine ⟨0, by omega, htop _ ?_⟩
    have hb : h ≠ ⊥ := by rintro rfl; simp at hh
    unfold scaleOf
    rw [if_neg hb, div_fifteen, EReal.sub_bot hb, tp]
  | coe l =>
    induction h using EReal.rec with
    | bot => simp at hh
    | top =>
      refine ⟨0, by omega, htop _ ?_⟩
      unfold scaleOf
      rw [if_neg (by simp), div_fifteen, EReal.top_sub_coe, tp]
    | coe h =>
      have hl' : l ≤ 0 := by exact_mod_cast hl
      have hh' : 0 ≤ h := by exact_mod_cast hh
      by_cases e : h = l
      · have hl0 : l = 0 := by linarith
        refine ⟨0, by omega, ?_⟩
        unfold scaleOf
        rw [if_pos (by rw [e]), hl0]
        rw [Ideal.div, if_neg one_ne_zero]
        simpa using hz0
      · have hpos : 0 < h - l := by
          rcases lt_or_eq_of_le (hl'.trans hh') with h1 | h1
          · linarith
          · exact absurd h1.symm e
        have hs : scaleOf (l : EReal) (h : EReal) = (((h - l) * (1 / 15) : ℝ) : EReal) := by
          unfold scaleOf
          rw [if_neg (by exact_mod_cast e), div_fifteen]
          push_cast; rfl
        have hsp : (h - l) * (1 / 15) ≠ 0 := by positivity
        rw [hs, Ideal.div_coe hsp]
        have hr : -(l : EReal) * ((1 / ((h - l) * (1 / 15)) : ℝ) : EReal) = ((-l / ((h - l) * (1 / 15)) : ℝ) : EReal) := by
          rw [← EReal.coe_neg, ← EReal.coe_mul]; congr 1; field_simp
        rw [hr]
        have hm := roundHalfEven_mem (-l / ((h - l) * (1 / 15))) 15 (by apply div_nonneg <;> [linarith; positivity]) (by
          rw [div_le_iff₀ (by positivity)]; push_cast; linarith)
        refine ⟨(Ideal.roundHalfEven (-l / ((h - l) * (1 / 15)))).toNat, by omega, ?_⟩
        unfold rnd
        rw [Ideal.liftRound_coe]
        congr 1
        have := Int.toNat_of_nonneg hm.1
        exact_mod_cast this.symm

/-- A group's zero point, as a number from 0 to 15. -/
def zero (f : Fin 128 → EReal) : ℕ := (zero_point (lo f) (hi f) (lo_nonpos f) (hi_nonneg f)).choose

/-- A zero point is at most 15. -/
theorem zero_le (f : Fin 128 → EReal) : zero f ≤ 15 :=
  (zero_point (lo f) (hi f) (lo_nonpos f) (hi_nonneg f)).choose_spec.1

/-- The rounded quotient is the zero point. -/
theorem rnd_zero (f : Fin 128 → EReal) : rnd (Ideal.div (-lo f) (scale f)) = ((zero f : ℝ) : EReal) :=
  (zero_point (lo f) (hi f) (lo_nonpos f) (hi_nonneg f)).choose_spec.2

/-- A rounded extended real is an infinity or a whole number. -/
theorem rnd_cases (x : EReal) : rnd x = ⊥ ∨ rnd x = ⊤ ∨ ∃ k : ℤ, rnd x = (((k : ℤ) : ℝ) : EReal) := by
  induction x using EReal.rec with
  | bot => exact .inl rfl
  | top => exact .inr (.inl rfl)
  | coe x => exact .inr (.inr ⟨_, rfl⟩)

/-- A clip to 0 … 15 after adding the zero point, and the kernel's clip shifted by the zero point, hold the same whole
    number: the first is it, the second is it less the zero point. -/
theorem clip (x : EReal) (z : ℕ) (hz : z ≤ 15) : ∃ n : ℕ, n ≤ 15 ∧
    min 15 (max 0 (rnd x + ((z : ℝ) : EReal))) = ((n : ℝ) : EReal) ∧
    min (max (rnd x) (0 - ((z : ℝ) : EReal))) (15 - ((z : ℝ) : EReal)) = (((n : ℝ) - (z : ℝ) : ℝ) : EReal) := by
  have e0 : (0 : EReal) - ((z : ℝ) : EReal) = ((0 - (z : ℝ) : ℝ) : EReal) := by norm_cast
  have e15 : (15 : EReal) - ((z : ℝ) : EReal) = ((15 - (z : ℝ) : ℝ) : EReal) := by rw [fifteen]; norm_cast
  have hzr : (z : ℝ) ≤ 15 := by exact_mod_cast hz
  have hmin : ∀ a b : ℝ, ((min a b : ℝ) : EReal) = min (a : EReal) b := fun a b => EReal.coe_strictMono.monotone.map_min
  have hmax : ∀ a b : ℝ, ((max a b : ℝ) : EReal) = max (a : EReal) b := fun a b => EReal.coe_strictMono.monotone.map_max
  rw [e0, e15]
  rcases rnd_cases x with h | h | ⟨k, h⟩ <;> rw [h]
  · refine ⟨0, by omega, ?_, ?_⟩
    · rw [EReal.bot_add, max_eq_left bot_le, min_eq_right (by norm_num)]; simp
    · rw [max_eq_right bot_le, min_eq_left (EReal.coe_le_coe (by linarith))]; simp
  · refine ⟨15, le_refl _, ?_, ?_⟩
    · rw [EReal.top_add_coe, max_eq_right le_top, min_eq_left le_top]; norm_cast
    · rw [max_eq_left le_top, min_eq_right le_top]; norm_cast
  · refine ⟨(min 15 (max 0 (k + z))).toNat, by omega, ?_, ?_⟩
    · have : (((min 15 (max 0 (k + z))).toNat : ℕ) : ℝ) = min 15 (max 0 ((k : ℝ) + z)) := by
        have h1 : (((min 15 (max 0 (k + z))).toNat : ℕ) : ℤ) = min 15 (max 0 (k + z)) := Int.toNat_of_nonneg (by omega)
        rw [← Int.cast_natCast (R := ℝ), h1]; push_cast; rfl
      rw [this, fifteen, hmin, hmax, EReal.coe_add]; rfl
    · have : (((min 15 (max 0 (k + z))).toNat : ℕ) : ℝ) - z = min (max (k : ℝ) (0 - z)) (15 - z) := by
        have h1 : (((min 15 (max 0 (k + z))).toNat : ℕ) : ℤ) - z = min (max k (0 - z)) (15 - z) := by omega
        rw [← Int.cast_natCast (R := ℝ), ← Int.cast_natCast (R := ℝ) z, ← Int.cast_sub, h1]; push_cast; rfl
      rw [this, hmin, hmax]

/-- The code of a value `x` in a group: a whole number from 0 to 15. -/
def code (f : Fin 128 → EReal) (x : EReal) : ℕ := (clip (Ideal.div x (scale f)) (zero f) (zero_le f)).choose

/-- A code is at most 15. -/
theorem code_le (f : Fin 128 → EReal) (x : EReal) : code f x ≤ 15 :=
  (clip (Ideal.div x (scale f)) (zero f) (zero_le f)).choose_spec.1

/-- The reference's clipped level is the code. -/
theorem level_eq (f : Fin 128 → EReal) (x : EReal) :
    min 15 (max 0 (rnd (Ideal.div x (scale f)) + ((zero f : ℝ) : EReal))) = ((code f x : ℝ) : EReal) :=
  (clip (Ideal.div x (scale f)) (zero f) (zero_le f)).choose_spec.2.1

/-- The kernel's shifted clip is the code less the zero point. -/
theorem shifted_eq (f : Fin 128 → EReal) (x : EReal) :
    min (max (rnd (Ideal.div x (scale f))) (0 - ((zero f : ℝ) : EReal))) (15 - ((zero f : ℝ) : EReal))
      = (((code f x : ℝ) - (zero f : ℝ) : ℝ) : EReal) :=
  (clip (Ideal.div x (scale f)) (zero f) (zero_le f)).choose_spec.2.2

/-- A small whole number converted to a signed word of 16 or 32 bits. -/
theorem fptosi_nat (w n : ℕ) (hw : (n : ℤ) ≤ ((2 ^ (w - 1) : ℕ) : ℤ) - 1) : Ideal.fptosi w ((n : ℝ) : EReal) = BitVec.ofNat w n := by
  unfold Ideal.fptosi
  rw [Ideal.toIntClamped_coe, if_pos (Nat.cast_nonneg n), Int.floor_natCast, min_eq_right hw,
    max_eq_right (by have : (0 : ℤ) ≤ ((2 ^ (w - 1) : ℕ) : ℤ) := Int.natCast_nonneg _; omega)]
  simp

/-- The byte that packs two codes, the first in the low four bits. -/
def pack (a b : ℕ) : BitVec 8 := BitVec.ofNat 8 (a + 16 * b)

/-- The kernel's packing, checked on every pair of codes. -/
theorem pack_kernel' : ∀ a b : Fin 16,
    ((((BitVec.ofNat 16 (128 + b.val) + 17024#16) ++ (BitVec.ofNat 16 (128 + a.val) + 17024#16) : BitVec 32)
      ^^^ (((BitVec.ofNat 16 (128 + b.val) + 17024#16) ++ (BitVec.ofNat 16 (128 + a.val) + 17024#16) : BitVec 32) >>> (12#32))).setWidth 16
        ^^^ 4#16).setWidth 8 = BitVec.ofNat 8 (a.val + 16 * b.val) := by decide +kernel

/-- The kernel's packing: two 16-bit words `0x4300 + code` side by side, folded onto themselves twelve bits down. -/
theorem pack_kernel (a b : ℕ) (ha : a ≤ 15) (hb : b ≤ 15) :
    ((((BitVec.ofNat 16 (128 + b) + 17024#16) ++ (BitVec.ofNat 16 (128 + a) + 17024#16) : BitVec 32)
      ^^^ (((BitVec.ofNat 16 (128 + b) + 17024#16) ++ (BitVec.ofNat 16 (128 + a) + 17024#16) : BitVec 32) >>> (12#32))).setWidth 16
        ^^^ 4#16).setWidth 8 = pack a b :=
  pack_kernel' ⟨a, by omega⟩ ⟨b, by omega⟩

/-- The reference's packing, checked on every pair of codes. -/
theorem pack_reference' : ∀ a b : Fin 16,
    (((BitVec.ofNat 32 a.val).setWidth 8).setWidth 32 ||| ((BitVec.ofNat 32 b.val).setWidth 8).setWidth 32 <<< 4#32).setWidth 8
      = BitVec.ofNat 8 (a.val + 16 * b.val) := by decide +kernel

/-- The reference's packing: the second code shifted up four bits, or-ed with the first. -/
theorem pack_reference (a b : ℕ) (ha : a ≤ 15) (hb : b ≤ 15) :
    (((BitVec.ofNat 32 a).setWidth 8).setWidth 32 ||| ((BitVec.ofNat 32 b).setWidth 8).setWidth 32 <<< 4#32).setWidth 8 = pack a b :=
  pack_reference' ⟨a, by omega⟩ ⟨b, by omega⟩

/-- Bits 0 to 3 of a byte, or bits 4 to 7, as a signed number. -/
def nibble (p : BitVec 8) (h : Fin 2) : ℤ := ((p >>> (4 * h.val)).setWidth 4).toInt

/-- The kernel's reading of the low half of a weight byte: up 28 bits and back down with the sign. -/
theorem nibble_low_kernel : ∀ p : BitVec 8, ((p.setWidth 32 <<< 28#32).sshiftRight' 28#32).toInt = nibble p 0 := by decide +kernel
/-- … and of the high half: up 24 bits, then down 28 with the sign. -/
theorem nibble_high_kernel : ∀ p : BitVec 8, ((p.setWidth 32 <<< 24#32).sshiftRight' 28#32).toInt = nibble p 1 := by decide +kernel

/-- The reference's reading of a weight byte's low half: the masked value, less 16 when it is 8 or more. -/
theorem nibble_low_reference : ∀ p : BitVec 8,
    (Scalar.select (IntOp.cmpi .sge (p.setWidth 32 &&& 15#32) 8#32) ((p.setWidth 32 &&& 15#32) - 16#32) (p.setWidth 32 &&& 15#32)).toInt
      = nibble p 0 := by decide +kernel
/-- … and the high half: the shifted value, less 16 when it is 8 or more. -/
theorem nibble_high_reference : ∀ p : BitVec 8,
    (Scalar.select (IntOp.cmpi .sge ((p.setWidth 32).sshiftRight' 4#32) 8#32) ((p.setWidth 32).sshiftRight' 4#32 - 16#32) ((p.setWidth 32).sshiftRight' 4#32)).toInt
      = nibble p 1 := by decide +kernel

/-- The least of 128 values, taken as eight parts of sixteen folded together and then over the sixteen; in any linear order,
    so that turning the order round gives the greatest. -/
theorem least_parts {α : Type} [LinearOrder α] [OrderTop α] (f : Fin 128 → α) :
    Finset.univ.inf (fun x : Fin 16 => min (min (min (min (min (min (min (f ⟨x.val, by omega⟩) (f ⟨16 + x.val, by omega⟩)) (f ⟨32 + x.val, by omega⟩)) (f ⟨48 + x.val, by omega⟩)) (f ⟨64 + x.val, by omega⟩)) (f ⟨80 + x.val, by omega⟩)) (f ⟨96 + x.val, by omega⟩)) (f ⟨112 + x.val, by omega⟩)) = Finset.univ.inf f := by
  refine eq_of_forall_le_iff fun c => ?_
  simp only [Finset.le_inf_iff, Finset.mem_univ, true_implies, le_min_iff]
  constructor
  · intro h k
    obtain ⟨⟨⟨⟨⟨⟨⟨h0, h1⟩, h2⟩, h3⟩, h4⟩, h5⟩, h6⟩, h7⟩ := h ⟨k.val % 16, by omega⟩
    have hk : ∀ {a : Fin 128}, c ≤ f a → a.val = k.val → c ≤ f k := fun h' e => h'.trans (le_of_eq (congrArg f (Fin.ext e)))
    have : k.val / 16 < 8 := by omega
    rcases (by omega : k.val / 16 = 0 ∨ k.val / 16 = 1 ∨ k.val / 16 = 2 ∨ k.val / 16 = 3 ∨ k.val / 16 = 4 ∨ k.val / 16 = 5
      ∨ k.val / 16 = 6 ∨ k.val / 16 = 7) with e | e | e | e | e | e | e | e
    exacts [hk h0 (by dsimp only; omega), hk h1 (by dsimp only; omega), hk h2 (by dsimp only; omega), hk h3 (by dsimp only; omega),
      hk h4 (by dsimp only; omega), hk h5 (by dsimp only; omega), hk h6 (by dsimp only; omega), hk h7 (by dsimp only; omega)]
  · intro h x
    simp only [h, and_self]

/-- The least of 128 values, in the kernel's order. -/
theorem inf_parts (f : Fin 128 → EReal) :
    Finset.univ.fold min ⊤ (fun x : Fin 16 => min (min (min (min (min (min (min (f ⟨x.val, by omega⟩) (f ⟨16 + x.val, by omega⟩)) (f ⟨32 + x.val, by omega⟩)) (f ⟨48 + x.val, by omega⟩)) (f ⟨64 + x.val, by omega⟩)) (f ⟨80 + x.val, by omega⟩)) (f ⟨96 + x.val, by omega⟩)) (f ⟨112 + x.val, by omega⟩)) = Finset.univ.inf f := least_parts f

/-- The greatest of 128 values, likewise. -/
theorem sup_parts (f : Fin 128 → EReal) :
    Finset.univ.fold max ⊥ (fun x : Fin 16 => max (max (max (max (max (max (max (f ⟨x.val, by omega⟩) (f ⟨16 + x.val, by omega⟩)) (f ⟨32 + x.val, by omega⟩)) (f ⟨48 + x.val, by omega⟩)) (f ⟨64 + x.val, by omega⟩)) (f ⟨80 + x.val, by omega⟩)) (f ⟨96 + x.val, by omega⟩)) (f ⟨112 + x.val, by omega⟩)) = Finset.univ.sup f := least_parts (α := ERealᵒᵈ) f

/-- The bits of infinity. -/
theorem ofBits_top : Ideal.ofBits .f32 0x7F800000#32 = ⊤ := by simp [Ideal.ofBits, Ideal.ieee]
/-- The bits of minus infinity. -/
theorem ofBits_bot : Ideal.ofBits .f32 0xFF800000#32 = ⊥ := by simp [Ideal.ofBits, Ideal.ieee]
/-- The bits of 15. -/
theorem ofBits_fifteen : Ideal.ofBits .f32 0x41700000#32 = 15 := by
  rw [fifteen]; simp [Ideal.ofBits, Ideal.ieee]; rw [← EReal.coe_mul]; norm_num
/-- The bits of 128. -/
theorem ofBits_128 : Ideal.ofBits .bf16 0x4300#16 = ((128 : ℝ) : EReal) := by
  simp [Ideal.ofBits, Ideal.ieee]

/-- The least of 128 values is one fold of `min`. -/
theorem inf_fold (f : Fin 128 → EReal) : Finset.univ.fold min ⊤ f = Finset.univ.inf f := rfl
/-- A folded maximum is a supremum. -/
theorem sup_fold (f : Fin 128 → EReal) : Finset.univ.fold max ⊥ f = Finset.univ.sup f := rfl

end Cert.Proof.Group

end
-- ==== Proof.RefRow.lean ====
/-
  The reference's quantisation, read at an index over the extended reals.
-/
module

public import proofs.«01_k».proof.Proof.Group
public import proofs.«01_k».proof.Proof.Gen.ReferenceIdeal.Read
public import Idealize.ShloMosaic.Lib.Pointwise

@[expose] public section
noncomputable section

namespace Cert.ReferenceIdeal.Read
open Cert.ReferenceIdeal Cert.ReferenceIdeal.Gen Idealize.ShloMosaic Idealize.ShloMosaic.TcCoe
open Cert.Proof

/-- A minimum along the last of four axes. -/
theorem reduce_min_last {n0 n1 n2 n3 : Nat} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.minimumf x init h hu (ix3 a b c) = (Finset.univ : Finset (Fin n3)).fold min (init (Shape.Idx.first hu)) fun k => x (ix4 a b c k) := by
  rw [Host.reduce_eq_fold, h.fold_fiber_r4_a3]
  rfl

/-- A maximum along the last of four axes. -/
theorem reduce_max_last {n0 n1 n2 n3 : Nat} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = (Finset.univ : Finset (Fin n3)).fold max (init (Shape.Idx.first hu)) fun k => x (ix4 a b c k) := by
  rw [Host.reduce_eq_fold, h.fold_fiber_r4_a3]
  rfl

variable (x : Vec Ideal S24x512x6144 .bf16) (b : Fin 24) (s : Fin 512) (g : Fin 48)

/-- A token's 128-column group. -/
def rgrp : Fin 128 → EReal := fun k => x (ix3 b s ⟨128 * g.val + k.val, by omega⟩)

/-- The gradient, split into groups. -/
theorem v1_apply (k : Fin 128) : val_main_v1 (F := Ideal) x (ix4 b s g k) = rgrp x b s g k := by
  pointwise [val_main_v1, val_main_v0]
  exact congrArg (fun q => x (ix3 b s q)) (Fin.ext (by show g.val * 128 + k.val = 128 * g.val + k.val; omega))

/-- A group's minimum. -/
theorem v2_apply : val_main_v2 (F := Ideal) x (ix3 b s g) = (Finset.univ : Finset (Fin 128)).inf (rgrp x b s g) := by
  rw [val_main_v2]
  refine (reduce_min_last _ _ _ _ b s g).trans ?_
  rw [show (fun k => val_main_v1 (F := Ideal) x (ix4 b s g k)) = rgrp x b s g from funext fun k => v1_apply x b s g k,
    val_main_cst_apply]
  rw [show FloatOps.ofBits (F := Ideal) .f32 0x7F800000#32 = ⊤ from Group.ofBits_top]
  exact Group.inf_fold _

/-- A group's maximum. -/
theorem v5_apply : val_main_v5 (F := Ideal) x (ix3 b s g) = (Finset.univ : Finset (Fin 128)).sup (rgrp x b s g) := by
  rw [val_main_v5]
  refine (reduce_max_last _ _ _ _ b s g).trans ?_
  rw [show (fun k => val_main_v1 (F := Ideal) x (ix4 b s g k)) = rgrp x b s g from funext fun k => v1_apply x b s g k,
    val_main_cst_1_apply]
  rw [show FloatOps.ofBits (F := Ideal) .f32 0xFF800000#32 = ⊥ from Group.ofBits_bot]
  exact Group.sup_fold _

/-- The lower bound. -/
theorem v4_apply : val_main_v4 (F := Ideal) x (ix3 b s g) = Group.lo (rgrp x b s g) := by
  rw [val_main_v4_apply, v2_apply, val_main_v3_apply, val_main_cst_0_apply]
  pointwise []
  exact min_comm _ _

/-- The upper bound. -/
theorem v7_apply : val_main_v7 (F := Ideal) x (ix3 b s g) = Group.hi (rgrp x b s g) := by
  rw [val_main_v7_apply, v5_apply, val_main_v6_apply, val_main_cst_2_apply]
  pointwise []
  exact max_comm _ _

/-- The scale. -/
theorem v12_apply : val_main_v12 (F := Ideal) x (ix3 b s g) = Group.scale (rgrp x b s g) := by
  rw [val_main_v12_apply, val_main_v8_apply, val_main_v11_apply, val_main_v9_apply, v4_apply, v7_apply, val_main_v10_apply,
    val_main_cst_3_apply, val_main_call0_v1_apply, val_main_call0_v0_apply, val_main_cst_4_apply]
  pointwise []
  rw [Group.ofBits_fifteen]
  rfl

/-- The zero point. -/
theorem v15_apply : val_main_v15 (F := Ideal) x (ix3 b s g) = (((Group.zero (rgrp x b s g) : ℕ) : ℝ) : EReal) := by
  rw [val_main_v15_apply, val_main_v14_apply, val_main_v13_apply, v4_apply, v12_apply]
  exact Group.rnd_zero _

/-- The zero point, spread over its group. -/
theorem v21_apply (k : Fin 128) : val_main_v21 (F := Ideal) x (ix4 b s g k) = (((Group.zero (rgrp x b s g) : ℕ) : ℝ) : EReal) := by
  rw [val_main_v21_apply, val_main_v20_apply]
  exact (congrArg (val_main_v15 x) (by funext a; match a with | ⟨0, _⟩ => rfl | ⟨1, _⟩ => rfl | ⟨2, _⟩ => rfl)).trans (v15_apply x b s g)

/-- The scale, spread over its group. -/
theorem v17_apply (k : Fin 128) : val_main_v17 (F := Ideal) x (ix4 b s g k) = Group.scale (rgrp x b s g) := by
  rw [val_main_v17_apply, val_main_v16_apply]
  exact (congrArg (val_main_v12 x) (by funext a; match a with | ⟨0, _⟩ => rfl | ⟨1, _⟩ => rfl | ⟨2, _⟩ => rfl)).trans (v12_apply x b s g)

/-- The code, as a float. -/
theorem v23_apply (k : Fin 128) : val_main_v23 (F := Ideal) x (ix4 b s g k) = (((Group.code (rgrp x b s g) (rgrp x b s g k) : ℕ) : ℝ) : EReal) := by
  rw [val_main_v23_apply, val_main_call3_v2_apply, val_main_v22_apply, val_main_v19_apply, val_main_v18_apply, v1_apply, v17_apply, v21_apply,
    val_main_call3_v4_apply, val_main_call3_v3_apply, val_main_cst_6_apply, val_main_call3_v1_apply, val_main_call3_v0_apply, val_main_cst_5_apply]
  pointwise []
  rw [Group.ofBits_fifteen]
  exact Group.level_eq _ _

/-- The code, as a byte. -/
theorem v25_apply (k : Fin 128) : val_main_v25 (F := Ideal) x (ix4 b s g k) = (BitVec.ofNat 32 (Group.code (rgrp x b s g) (rgrp x b s g k))).setWidth 8 := by
  have h := Group.code_le (rgrp x b s g) (rgrp x b s g k)
  rw [val_main_v25_apply, val_main_v24_apply, v23_apply]
  exact congrArg (BitVec.setWidth 8) (Group.fptosi_nat 32 _ (by omega))

/-- The zero point, as a byte. -/
theorem v27_apply : val_main_v27 (F := Ideal) x (ix3 b s g) = (BitVec.ofNat 32 (Group.zero (rgrp x b s g))).setWidth 8 := by
  have h := Group.zero_le (rgrp x b s g)
  rw [val_main_v27_apply, val_main_v26_apply, v15_apply]
  exact congrArg (BitVec.setWidth 8) (Group.fptosi_nat 32 _ (by omega))

/-- A code less a zero point, both passed through bytes, is their difference. -/
theorem sub_int : ∀ p q : Fin 16, (((BitVec.ofNat 32 p.val).setWidth 8).setWidth 32 - ((BitVec.ofNat 32 q.val).setWidth 8).setWidth 32).toInt
    = (p.val : ℤ) - (q.val : ℤ) := by decide +kernel

/-- A dequantised value. -/
theorem v45_apply (k : Fin 128) : val_main_v45 (F := Ideal) x (ix4 b s g k) =
    (((Group.code (rgrp x b s g) (rgrp x b s g k) : ℝ) - (Group.zero (rgrp x b s g) : ℝ) : ℝ) : EReal) * Group.scale (rgrp x b s g) := by
  have hc := Group.code_le (rgrp x b s g) (rgrp x b s g k)
  have hz := Group.zero_le (rgrp x b s g)
  have e39 : val_main_v39 (F := Ideal) x (ix4 b s g k) = ((BitVec.ofNat 32 (Group.zero (rgrp x b s g))).setWidth 8).setWidth 32 := by
    rw [val_main_v39_apply, val_main_v38_apply, val_main_v37_apply]
    exact congrArg (BitVec.setWidth 32) ((congrArg (val_main_v27 x) (by funext a; match a with | ⟨0, _⟩ => rfl | ⟨1, _⟩ => rfl | ⟨2, _⟩ => rfl)).trans (v27_apply x b s g))
  have e44 : val_main_v44 (F := Ideal) x (ix4 b s g k) = Group.scale (rgrp x b s g) := by
    rw [val_main_v44_apply, val_main_v43_apply, val_main_v42_apply]
    exact ((congrArg (val_main_v12 x) (by funext a; match a with | ⟨0, _⟩ => rfl | ⟨1, _⟩ => rfl | ⟨2, _⟩ => rfl)).trans (v12_apply x b s g))
  rw [val_main_v45_apply, val_main_v41_apply, val_main_v40_apply, val_main_v36_apply, v25_apply, e39, e44]
  refine congrArg (· * _) ?_
  have h := sub_int ⟨_, Nat.lt_succ_of_le hc⟩ ⟨_, Nat.lt_succ_of_le hz⟩
  refine (congrArg (fun i : ℤ => ((i : ℝ) : EReal)) h).trans ?_
  push_cast
  rfl

end Cert.ReferenceIdeal.Read
end
-- ==== Proof.Pieces.lean ====
/-
  What one grid point's stores leave, as families: the body's stores are unrolled (48 groups, 24 pairs of groups, 4
  column chunks), and each family is stated once with the store's number as the parameter.
-/
module

public import proofs.«01_k».proof.Proof.Gen.KernelIdeal.Value

@[expose] public section
set_option maxRecDepth 16384
noncomputable section

namespace Cert.KernelIdeal.Gen
open Idealize.ShloMosaic Idealize.ShloMosaic.TcCoe Idealize.ShloMosaic.Tactic

variable {F : FTy → Type} [FloatOps F]

/-- The constant zero that a group's arithmetic starts from. -/
abbrev zeroF : F .f32 := Scalar.ofBits .f32 0x00000000#32

/-- The dequantised transposed values of a group of 128 columns. -/
def gT (v : Vec F S256x128 .bf16) : FVec F S128x256 .bf16 := k0_pay17 (k0_pay3 v) (k0_pay12 v) (k0_pay13 v) (k0_pay14 v) zeroF
/-- The scales of a group, one per row. -/
def sT (v : Vec F S256x128 .bf16) : FVec F S1x256 .f32 := k0_pay18 (k0_pay13 v)
/-- The zero points of a group, one per row. -/
def zT (v : Vec F S256x128 .bf16) : FVec F S1x256 .f32 := k0_pay19 (k0_pay12 v) (k0_pay14 v) zeroF
/-- The codes of a group, two folded into a 16-bit word. -/
def cT (v : Vec F S256x128 .bf16) : IVec S64x256 16 := k0_pay20 (k0_pay3 v) (k0_pay12 v) (k0_pay14 v) zeroF
/-- The packed codes of two groups. -/
def bT (v v' : Vec F S256x128 .bf16) : IVec S256x128 8 :=
  trunci 8 (xori (transpose S256x128 [1, 0] (concatenate S128x256 0 [⟨S64x256, cT v⟩, ⟨S64x256, cT v'⟩] concatenates_S64x256_S64x256_S128x256_d0)
    transposes_S128x256_p1_0_S256x128) (broadcast S256x128 4#16)) natLt_8_16

/-- A group's columns lie in the block. -/
theorem inb_part (g : Fin 48) : ∀ a, (![0, 128 * g.val] : Fin 2 → Nat) a + S256x128.size a ≤ S256x6144.size a :=
  Fin.forall_fin_two.mpr ⟨le_refl _, by have := g.isLt; show 128 * g.val + 128 ≤ 6144; omega⟩
/-- A group's rows lie in the transposed block. -/
theorem inb_gt (g : Fin 48) : ∀ a, (![128 * g.val, 0] : Fin 2 → Nat) a + S128x256.size a ≤ S6144x256.size a :=
  Fin.forall_fin_two.mpr ⟨by have := g.isLt; show 128 * g.val + 128 ≤ 6144; omega, le_refl _⟩
/-- A group's row lies in the transposed scales. -/
theorem inb_row (g : Fin 48) : ∀ a, (![g.val, 0] : Fin 2 → Nat) a + S1x256.size a ≤ S48x256.size a :=
  Fin.forall_fin_two.mpr ⟨by have := g.isLt; show g.val + 1 ≤ 48; omega, le_refl _⟩
/-- A pair of groups' bytes lie in the codes. -/
theorem inb_codes (k : Fin 24) : ∀ a, (![0, 128 * k.val] : Fin 2 → Nat) a + S256x128.size a ≤ S256x3072.size a :=
  Fin.forall_fin_two.mpr ⟨le_refl _, by have := k.isLt; show 128 * k.val + 128 ≤ 3072; omega⟩
/-- A quarter's columns lie in the result. -/
theorem inb_dx (k : Fin 4) : ∀ a, (![0, 512 * k.val] : Fin 2 → Nat) a + S256x512.size a ≤ S256x2048.size a :=
  Fin.forall_fin_two.mpr ⟨le_refl _, by have := k.isLt; show 512 * k.val + 512 ≤ 2048; omega⟩
/-- A quarter's rows lie in the weights. -/
theorem inb_w (k : Fin 4) : ∀ a, (![512 * k.val, 0] : Fin 2 → Nat) a + S512x6144.size a ≤ S2048x6144.size a :=
  Fin.forall_fin_two.mpr ⟨by have := k.isLt; show 512 * k.val + 512 ≤ 2048; omega, le_refl _⟩
/-- A weight group's rows lie in the weights. -/
theorem inb_wrow (k : Fin 16) : ∀ a, (![128 * k.val, 0] : Fin 2 → Nat) a + S128x6144.size a ≤ S2048x6144.size a :=
  Fin.forall_fin_two.mpr ⟨by have := k.isLt; show 128 * k.val + 128 ≤ 2048; omega, le_refl _⟩
/-- A weight group's packed rows lie in the packed weights. -/
theorem inb_wp (k : Fin 16) : ∀ a, (![64 * k.val, 0] : Fin 2 → Nat) a + S64x6144.size a ≤ S1024x6144.size a :=
  Fin.forall_fin_two.mpr ⟨by have := k.isLt; show 64 * k.val + 64 ≤ 1024; omega, le_refl _⟩
/-- A weight group's row lies in the weights' scales. -/
theorem inb_ws (k : Fin 16) : ∀ a, (![k.val, 0] : Fin 2 → Nat) a + S1x6144.size a ≤ S16x6144.size a :=
  Fin.forall_fin_two.mpr ⟨by have := k.isLt; show k.val + 1 ≤ 16; omega, le_refl _⟩

/-- The transposed block lies in itself. -/
theorem inb_gtAll : ∀ a, (![0, 0] : Fin 2 → Nat) a + S6144x256.size a ≤ S6144x256.size a :=
  Fin.forall_fin_two.mpr ⟨le_refl _, le_refl _⟩
/-- The transposed scales lie in themselves. -/
theorem inb_rowAll : ∀ a, (![0, 0] : Fin 2 → Nat) a + S48x256.size a ≤ S48x256.size a :=
  Fin.forall_fin_two.mpr ⟨le_refl _, le_refl _⟩
/-- The scales' block lies in itself. -/
theorem inb_outAll : ∀ a, (![0, 0] : Fin 2 → Nat) a + S256x48.size a ≤ S256x48.size a :=
  Fin.forall_fin_two.mpr ⟨le_refl _, le_refl _⟩

section
variable (c : Dev nD) (i : grid0.Coords) (arg1 : Memref sig .tc .vmem S256x6144 .bf16) (harg1 : arg1.IsWhole) (arg2 : Memref sig .tc .vmem S1024x6144 .i8) (harg2 : arg2.IsWhole) (arg3 : Memref sig .tc .vmem S16x6144 .f32) (harg3 : arg3.IsWhole) (arg4 : Memref sig .tc .vmem S256x2048 .bf16) (harg4 : arg4.IsWhole) (arg5 : Memref sig .tc .vmem S256x3072 .i8) (harg5 : arg5.IsWhole) (arg6 : Memref sig .tc .vmem S256x48 .f32) (harg6 : arg6.IsWhole) (arg7 : Memref sig .tc .vmem S256x48 .i8) (harg7 : arg7.IsWhole) (arg8 : Memref sig .tc .vmem S2048x6144 .bf16) (harg8 : arg8.IsWhole) (arg9 : Memref sig .tc .vmem S6144x256 .bf16) (harg9 : arg9.IsWhole) (arg10 : Memref sig .tc .vmem S48x256 .f32) (harg10 : arg10.IsWhole) (arg11 : Memref sig .tc .vmem S48x256 .f32) (harg11 : arg11.IsWhole)
    (x0 : Vec F S256x6144 .bf16) (x1 : Vec F S1024x6144 .i8) (x2 : Vec F S16x6144 .f32) (xs0 : Vec F S2048x6144 .bf16)

/-- The `g`-th group of columns, loaded. -/
abbrev part (g : Fin 48) : Vec F S256x128 .bf16 :=
  View.readAt (Elt F) arg1.view (Rect.unit (s := S256x6144) ![0, 128 * g.val] S256x128.size (inb_part g)).toLoadRect (harg1.unread x0)

/-- The stores into the scratch of dequantised values. -/
abbrev gtL : List (View.Piece (Elt F) S6144x256 .bf16) :=
  List.ofFn fun j : Fin 48 => ⟨Rect.unit ![128 * j.rev.val, 0] S128x256.size (inb_gt j.rev), gT (part arg1 harg1 x0 j.rev)⟩
/-- The stores into the scratch of scales. -/
abbrev stL : List (View.Piece (Elt F) S48x256 .f32) :=
  List.ofFn fun j : Fin 48 => ⟨Rect.unit ![j.rev.val, 0] S1x256.size (inb_row j.rev), sT (part arg1 harg1 x0 j.rev)⟩
/-- The stores into the scratch of zero points. -/
abbrev ztL : List (View.Piece (Elt F) S48x256 .f32) :=
  List.ofFn fun j : Fin 48 => ⟨Rect.unit ![j.rev.val, 0] S1x256.size (inb_row j.rev), zT (part arg1 harg1 x0 j.rev)⟩
/-- The stores of packed codes. -/
abbrev codesL : List (View.Piece (Elt F) S256x3072 .i8) :=
  List.ofFn fun j : Fin 24 => ⟨Rect.unit ![0, 128 * j.rev.val] S256x128.size (inb_codes j.rev),
    bT (part arg1 harg1 x0 ⟨2 * j.rev.val, by have := j.rev.isLt; omega⟩) (part arg1 harg1 x0 ⟨2 * j.rev.val + 1, by have := j.rev.isLt; omega⟩)⟩
/-- The store of the scales. -/
abbrev scalesL : List (View.Piece (Elt F) S256x48 .f32) :=
  [⟨Rect.unit ![0, 0] S256x48.size inb_outAll, k0_pay1018 (arg10.view.readCov (stL arg1 harg1 x0) (Rect.unit (s := S48x256) ![0, 0] S48x256.size inb_rowAll).toLoadRect)⟩]
/-- The store of the zero points. -/
abbrev zerosL : List (View.Piece (Elt F) S256x48 .i8) :=
  [⟨Rect.unit ![0, 0] S256x48.size inb_outAll, k0_pay1019 (arg11.view.readCov (ztL arg1 harg1 x0) (Rect.unit (s := S48x256) ![0, 0] S48x256.size inb_rowAll).toLoadRect)⟩]
/-- The stores of the gradient, with `w k` the `k`-th 512 rows of dequantised weights. -/
abbrev dxL (w : Fin 4 → Vec F S512x6144 .bf16) : List (View.Piece (Elt F) S256x2048 .bf16) :=
  List.ofFn fun j : Fin 4 => ⟨Rect.unit ![0, 512 * j.rev.val] S256x512.size (inb_dx j.rev),
    k0_pay1 (w j.rev) (arg9.view.readCov (gtL arg1 harg1 x0) (Rect.unit (s := S6144x256) ![0, 0] S6144x256.size inb_gtAll).toLoadRect)⟩
/-- The stores of the dequantised weights (first point only). -/
abbrev wL : List (View.Piece (Elt F) S2048x6144 .bf16) :=
  List.ofFn fun j : Fin 16 => ⟨Rect.unit ![128 * j.rev.val, 0] S128x6144.size (inb_wrow j.rev),
    k0_pay2 (View.readAt (Elt F) arg2.view (Rect.unit (s := S1024x6144) ![64 * j.rev.val, 0] S64x6144.size (inb_wp j.rev)).toLoadRect (harg2.unread x1))
      (View.readAt (Elt F) arg3.view (Rect.unit (s := S16x6144) ![j.rev.val, 0] S1x6144.size (inb_ws j.rev)).toLoadRect (harg3.unread x2))⟩

set_option maxHeartbeats 4000000

/-- The loop's stores at the first point are the family of its sixteen trips. -/
theorem run_w_A (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2).2.2.2.2.1 = wL arg2 harg2 arg3 harg3 x1 x2 := by sl_kernel_rfl

/-- The scales stored at a point. -/
theorem run_scales_A (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2).2.2.1 = scalesL arg1 harg1 arg10 x0 := by sl_kernel_rfl
/-- A later point's scales: the case's payload. -/
theorem run_scales_B (hc0 : ¬ cond0_0 i) : (kernelRun0_B c i arg1 harg1 arg2 harg2 arg3 harg3 arg4 harg4 arg5 harg5 arg6 harg6 arg7 harg7 arg8 harg8 arg9 harg9 arg10 harg10 arg11 harg11 hc0 x0 x1 x2 xs0).2.2.1 = scalesL arg1 harg1 arg10 x0 := by sl_kernel_rfl
/-- The zero points stored at a point. -/
theorem run_zeros_A (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2).2.2.2.1 = zerosL arg1 harg1 arg11 x0 := by sl_kernel_rfl
/-- A later point's zero points: the case's payload. -/
theorem run_zeros_B (hc0 : ¬ cond0_0 i) : (kernelRun0_B c i arg1 harg1 arg2 harg2 arg3 harg3 arg4 harg4 arg5 harg5 arg6 harg6 arg7 harg7 arg8 harg8 arg9 harg9 arg10 harg10 arg11 harg11 hc0 x0 x1 x2 xs0).2.2.2.1 = zerosL arg1 harg1 arg11 x0 := by sl_kernel_rfl
/-- The packed codes stored at a point. -/
theorem run_codes_A (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2).2.1 = codesL arg1 harg1 x0 := by sl_kernel_rfl
/-- A later point's codes, as a list of stores. -/
theorem run_codes_B (hc0 : ¬ cond0_0 i) : (kernelRun0_B c i arg1 harg1 arg2 harg2 arg3 harg3 arg4 harg4 arg5 harg5 arg6 harg6 arg7 harg7 arg8 harg8 arg9 harg9 arg10 harg10 arg11 harg11 hc0 x0 x1 x2 xs0).2.1 = codesL arg1 harg1 x0 := by sl_kernel_rfl
/-- The gradient stored at the first point: the weights are what the loop has just left. -/
theorem run_dx_A (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2).1 = dxL arg1 harg1 arg9 x0
    (fun k => arg8.view.readCov (wL arg2 harg2 arg3 harg3 x1 x2) (Rect.unit (s := S2048x6144) ![512 * k.val, 0] S512x6144.size (inb_w k)).toLoadRect) := by sl_kernel_rfl
/-- The gradient stored at a later point: the weights are the carried ones. -/
theorem run_dx_B (hc0 : ¬ cond0_0 i) : (kernelRun0_B c i arg1 harg1 arg2 harg2 arg3 harg3 arg4 harg4 arg5 harg5 arg6 harg6 arg7 harg7 arg8 harg8 arg9 harg9 arg10 harg10 arg11 harg11 hc0 x0 x1 x2 xs0).1 = dxL arg1 harg1 arg9 x0
    (fun k => View.readAt (Elt F) arg8.view (Rect.unit (s := S2048x6144) ![512 * k.val, 0] S512x6144.size (inb_w k)).toLoadRect (harg8.unread xs0)) := by sl_kernel_rfl

end
end Cert.KernelIdeal.Gen
-- ==== Proof.GroupVal.lean ====
/-
  One group of 128 columns, read at an index over the extended reals: the scale, the zero point, the dequantised
  values and the packed codes that the kernel computes are the ones of Proof/Group.lean.
-/
module

public import proofs.«01_k».proof.Proof.Pieces
public import proofs.«01_k».proof.Proof.Group
public import Idealize.ShloMosaic.Lib.Pointwise
public import Idealize.ShloMosaic.Lib.BitcastPair

@[expose] public section
noncomputable section

namespace Cert.KernelIdeal.Gen
open Idealize.ShloMosaic Idealize.ShloMosaic.TcCoe
open Cert.Proof

/-- Row `r` of a loaded group. -/
abbrev row (v : Vec Ideal S256x128 .bf16) (r : Fin 256) : Fin 128 → EReal := fun k => v (ix2 r k)

/-- The group, transposed. -/
theorem pay3_apply (v : Vec Ideal S256x128 .bf16) (k : Fin 128) (r : Fin 256) : k0_pay3 v (ix2 k r) = v (ix2 r k) := by
  pointwise [k0_pay3]

/-- The lower bounds. -/
theorem pay12_apply (v : Vec Ideal S256x128 .bf16) (r : Fin 256) : k0_pay12 v (ix2 0 r) = Group.lo (row v r) := by
  pointwise [k0_pay12, k0_pay4, k0_pay5, k0_pay6, k0_pay7, k0_pay8, k0_pay9, k0_pay10, k0_pay11, k0_pay3]
  exact congrArg (min · 0) ((congrArg (fun b => Finset.fold min b _ _) Group.ofBits_top).trans (Group.inf_parts (row v r)))

/-- The scales. -/
theorem pay13_apply (v : Vec Ideal S256x128 .bf16) (r : Fin 256) : k0_pay13 v (ix2 0 r) = Group.scale (row v r) := by
  pointwise [k0_pay13, k0_pay4, k0_pay5, k0_pay6, k0_pay7, k0_pay8, k0_pay9, k0_pay10, k0_pay11, k0_pay3]
  rw [pay12_apply, Group.ofBits_fifteen, Group.ofBits_bot]
  have h := congrArg (max · 0) (Group.sup_parts (row v r))
  exact congrArg (Group.scaleOf (Group.lo (row v r))) h

/-- The scales' reciprocals. -/
theorem pay14_apply (v : Vec Ideal S256x128 .bf16) (r : Fin 256) : k0_pay14 v (ix2 0 r) = Ideal.div 1 (Group.scale (row v r)) := by
  pointwise [k0_pay14]
  rw [pay13_apply]

/-- The zero points. -/
theorem pay15_apply (v : Vec Ideal S256x128 .bf16) (r : Fin 256) :
    k0_pay15 (k0_pay12 v) (k0_pay14 v) zeroF (ix2 0 r) = (((Group.zero (row v r) : ℕ) : ℝ) : EReal) := by
  pointwise [k0_pay15]
  rw [pay12_apply, pay14_apply, Group.mul_recip, zero_sub]
  exact Group.rnd_zero _

/-- The codes less the zero points. -/
theorem pay16_apply (v : Vec Ideal S256x128 .bf16) (k : Fin 128) (r : Fin 256) : k0_pay16 (k0_pay3 v) (k0_pay12 v) (k0_pay14 v) zeroF (ix2 k r)
    = (((Group.code (row v r) (v (ix2 r k)) : ℝ) - (Group.zero (row v r) : ℝ) : ℝ) : EReal) := by
  have hz := pay15_apply v r
  pointwise [k0_pay15] at hz
  pointwise [k0_pay16, k0_pay15]
  rw [hz, pay3_apply, pay14_apply, Group.mul_recip, Group.ofBits_fifteen]
  exact Group.shifted_eq _ _

/-- The dequantised values. -/
theorem gT_apply (v : Vec Ideal S256x128 .bf16) (k : Fin 128) (r : Fin 256) : gT v (ix2 k r)
    = (((Group.code (row v r) (v (ix2 r k)) : ℝ) - (Group.zero (row v r) : ℝ) : ℝ) : EReal) * Group.scale (row v r) := by
  have h := pay16_apply v k r
  pointwise [gT, k0_pay17] at h ⊢
  rw [h, pay13_apply]

/-- The scale of a row's group. -/
theorem sT_apply (v : Vec Ideal S256x128 .bf16) (r : Fin 256) : sT v (ix2 0 r) = Group.scale (row v r) := by
  pointwise [sT, k0_pay18]
  exact pay13_apply v r

/-- The zero point of a row's group. -/
theorem zT_apply (v : Vec Ideal S256x128 .bf16) (r : Fin 256) : zT v (ix2 0 r) = (((Group.zero (row v r) : ℕ) : ℝ) : EReal) := by
  have h := pay15_apply v r
  pointwise [zT, k0_pay19] at h ⊢
  exact h

/-- Two stacked 16-bit rows read as one 32-bit row. -/
theorem pair_apply (x : IVec S128x256 16) (q : Fin 64) (r : Fin 256) :
    bitcast S64x256 32 x bitcasts_S128x256_w16_S64x256_w32 (ix2 q r)
      = x (ix2 ⟨2 * q.val + 1, by omega⟩ r) ++ x (ix2 ⟨2 * q.val, by omega⟩ r) := by
  have hrow : S64x256.row (ix2 q r : S64x256.Idx) = q.val := rfl
  have key : ∀ p (hp : p < 128) h, Shape.Bitcasts.srcIdx bitcasts_S128x256_w16_S64x256_w32 (ix2 q r : S64x256.Idx) p h = (ix2 ⟨p, hp⟩ r : S128x256.Idx) := by
    intro p hp h
    funext a
    apply Fin.ext
    match a with
    | ⟨0, _⟩ => exact Shape.Bitcasts.srcIdx_row _ _ _ h _ rfl
    | ⟨1, _⟩ => exact Shape.Bitcasts.srcIdx_other _ _ _ h _ (show ¬ (1 + 2 = 2) by omega)
  rw [bitcast_16_32]
  congr 1
  · exact congrArg x (key _ (by rw [hrow]; omega) _)
  · exact congrArg x (key _ (by rw [hrow]; omega) _)

/-- A code's 16-bit word. -/
theorem word_apply (v : Vec Ideal S256x128 .bf16) (k : Fin 128) (r : Fin 256) :
    FloatOps.fptosi 16 (FloatOps.addf (k0_pay16 (k0_pay3 v) (k0_pay12 v) (k0_pay14 v) zeroF (ix2 k r))
      (FloatOps.addf (k0_pay15 (k0_pay12 v) (k0_pay14 v) zeroF (ix2 0 r)) (Ideal.ofBits .bf16 0x4300#16 : Ideal .bf16) : Ideal .bf16))
      = BitVec.ofNat 16 (128 + Group.code (row v r) (v (ix2 r k))) := by
  rw [pay16_apply, pay15_apply, Group.ofBits_128]
  show Ideal.fptosi 16 ((((_ : ℝ) : EReal)) + ((((_ : ℕ) : ℝ) : EReal) + ((128 : ℝ) : EReal))) = _
  have hc := Group.code_le (row v r) (v (ix2 r k))
  rw [← EReal.coe_add, ← EReal.coe_add, ← Group.fptosi_nat 16 _ (by push_cast; omega)]
  congr 2
  push_cast
  ring

/-- The folded words of a group's codes. -/
theorem cT_apply (v : Vec Ideal S256x128 .bf16) (q : Fin 64) (r : Fin 256) : cT v (ix2 q r) =
    (((BitVec.ofNat 16 (128 + Group.code (row v r) (v (ix2 r ⟨2 * q.val + 1, by omega⟩))) + 17024#16)
        ++ (BitVec.ofNat 16 (128 + Group.code (row v r) (v (ix2 r ⟨2 * q.val, by omega⟩))) + 17024#16) : BitVec 32)
      ^^^ (((BitVec.ofNat 16 (128 + Group.code (row v r) (v (ix2 r ⟨2 * q.val + 1, by omega⟩))) + 17024#16)
        ++ (BitVec.ofNat 16 (128 + Group.code (row v r) (v (ix2 r ⟨2 * q.val, by omega⟩))) + 17024#16) : BitVec 32) >>> (12#32))).setWidth 16 := by
  rw [← word_apply, ← word_apply]
  show BitVec.setWidth 16 (IntOp.xori (bitcast S64x256 32 _ bitcasts_S128x256_w16_S64x256_w32 (ix2 q r))
    (IntOp.shrui ArithUnit.vector (bitcast S64x256 32 _ bitcasts_S128x256_w16_S64x256_w32 (ix2 q r)) 12#32)) = _
  rw [pair_apply]
  rfl

/-- The packed codes of two groups: the first group's 64 bytes, then the second's. -/
theorem bT_apply (v v' : Vec Ideal S256x128 .bf16) (r : Fin 256) (q : Fin 128) : bT v v' (ix2 r q) =
    if h : q.val < 64 then Group.pack (Group.code (row v r) (v (ix2 r ⟨2 * q.val, by omega⟩))) (Group.code (row v r) (v (ix2 r ⟨2 * q.val + 1, by omega⟩)))
    else Group.pack (Group.code (row v' r) (v' (ix2 r ⟨2 * (q.val - 64), by omega⟩))) (Group.code (row v' r) (v' (ix2 r ⟨2 * (q.val - 64) + 1, by omega⟩))) := by
  pointwise [bT]
  split_ifs with h
  · rw [cT_apply]
    exact Group.pack_kernel _ _ (Group.code_le _ _) (Group.code_le _ _)
  · rw [cT_apply]
    exact Group.pack_kernel _ _ (Group.code_le _ _) (Group.code_le _ _)
  · next h0 => exact absurd rfl h0

end Cert.KernelIdeal.Gen
end
-- ==== Proof.Block.lean ====
/-
  One grid point's four output blocks, read at an index over the extended reals, as functions of the point's block of
  the gradient and of the packed weights.
-/
module

public import proofs.«01_k».proof.Proof.GroupVal
public import Idealize.ShloMosaic.Lib.Pipeline.ValueKit

@[expose] public section
noncomputable section

namespace Cert.KernelIdeal.Gen
open Idealize.ShloMosaic Idealize.ShloMosaic.TcCoe
open Cert.Proof

/-- Row `r` of the `g`-th group of 128 columns of a block. -/
def grp (x0 : Vec Ideal S256x6144 .bf16) (r : Fin 256) (g : Fin 48) : Fin 128 → EReal := fun k => x0 (ix2 r ⟨128 * g.val + k.val, by omega⟩)

/-- The group a column lies in. -/
abbrev gof (n : Fin 6144) : Fin 48 := ⟨n.val / 128, by omega⟩

/-- A loaded group's row is the block's. -/
theorem part_row (arg1 : Memref sig .tc .vmem S256x6144 .bf16) (harg1 : arg1.IsWhole) (x0 : Vec Ideal S256x6144 .bf16) (g : Fin 48)
    (r : Fin 256) : row (part arg1 harg1 x0 g) r = grp x0 r g := by
  funext k
  show View.readAt (Elt Ideal) arg1.view _ _ _ = _
  rw [View.readAt_eq_ld, harg1.read_unread]
  refine congrArg x0 ?_
  funext a
  apply Fin.ext
  match a with
  | ⟨0, _⟩ => simp [ix2]
  | ⟨1, _⟩ => simp [ix2]

/-- A group's load reads its 128 columns of the block. -/
theorem part_apply (arg1 : Memref sig .tc .vmem S256x6144 .bf16) (harg1 : arg1.IsWhole) (x0 : Vec Ideal S256x6144 .bf16) (g : Fin 48)
    (r : Fin 256) (k : Fin 128) : part arg1 harg1 x0 g (ix2 r k) = grp x0 r g k := congrFun (part_row arg1 harg1 x0 g r) k

/-- A dequantised value of a block: its code less its group's zero point, times the group's scale. -/
def deq (x0 : Vec Ideal S256x6144 .bf16) (r : Fin 256) (n : Fin 6144) : EReal :=
  (((Group.code (grp x0 r (gof n)) (x0 (ix2 r n)) : ℝ) - (Group.zero (grp x0 r (gof n)) : ℝ) : ℝ) : EReal) * Group.scale (grp x0 r (gof n))

/-- The scratch of dequantised values, after the groups' stores. -/
theorem gt_apply (arg1 : Memref sig .tc .vmem S256x6144 .bf16) (harg1 : arg1.IsWhole) (x0 : Vec Ideal S256x6144 .bf16)
    (n : Fin 6144) (r : Fin 256) : View.canon (gtL arg1 harg1 x0) (ix2 n r) = deq x0 r n := by
  canon_tiles x h
  case cover =>
    refine ⟨(gof n).rev, Fin.forall_fin_two.mpr ⟨?_, ?_⟩⟩
    · rw [Fin.rev_rev]; show 128 * (n.val / 128) ≤ n.val ∧ n.val < 128 * (n.val / 128) + 128; omega
    · show 0 ≤ r.val ∧ r.val < 0 + 256; omega
  case tile =>
    obtain ⟨a, b, rfl⟩ : ∃ (a : Fin 128) (b : Fin 256), x = ix2 a b := ⟨x 0, x 1, by funext i; match i with | ⟨0, _⟩ => rfl | ⟨1, _⟩ => rfl⟩
    have e0 : n.val = 128 * k.rev.val + a.val := h0
    obtain rfl : r = b := Fin.ext h1
    have hg : gof n = k.rev := Fin.ext (by show n.val / 128 = _; omega)
    have hx : x0 (ix2 r n) = grp x0 r k.rev a := congrArg x0 (congrArg (ix2 r) (Fin.ext e0))
    rw [gT_apply, part_row, part_apply, deq, hg, hx]

/-- The scratch of scales. -/
theorem st_apply (arg1 : Memref sig .tc .vmem S256x6144 .bf16) (harg1 : arg1.IsWhole) (x0 : Vec Ideal S256x6144 .bf16)
    (g : Fin 48) (r : Fin 256) : View.canon (stL arg1 harg1 x0) (ix2 g r) = Group.scale (grp x0 r g) := by
  canon_tiles x h
  case cover =>
    refine ⟨g.rev, Fin.forall_fin_two.mpr ⟨?_, ?_⟩⟩
    · rw [Fin.rev_rev]; show g.val ≤ g.val ∧ g.val < g.val + 1; omega
    · show 0 ≤ r.val ∧ r.val < 0 + 256; omega
  case tile =>
    obtain ⟨a, b, rfl⟩ : ∃ (a : Fin 1) (b : Fin 256), x = ix2 a b := ⟨x 0, x 1, by funext i; match i with | ⟨0, _⟩ => rfl | ⟨1, _⟩ => rfl⟩
    have e0 : g.val = k.rev.val + a.val := h0
    obtain rfl : r = b := Fin.ext h1
    obtain rfl : a = 0 := Subsingleton.elim _ _
    obtain rfl : g = k.rev := Fin.ext e0
    rw [sT_apply, part_row]

/-- The scratch of zero points. -/
theorem zt_apply (arg1 : Memref sig .tc .vmem S256x6144 .bf16) (harg1 : arg1.IsWhole) (x0 : Vec Ideal S256x6144 .bf16)
    (g : Fin 48) (r : Fin 256) : View.canon (ztL arg1 harg1 x0) (ix2 g r) = (((Group.zero (grp x0 r g) : ℕ) : ℝ) : EReal) := by
  canon_tiles x h
  case cover =>
    refine ⟨g.rev, Fin.forall_fin_two.mpr ⟨?_, ?_⟩⟩
    · rw [Fin.rev_rev]; show g.val ≤ g.val ∧ g.val < g.val + 1; omega
    · show 0 ≤ r.val ∧ r.val < 0 + 256; omega
  case tile =>
    obtain ⟨a, b, rfl⟩ : ∃ (a : Fin 1) (b : Fin 256), x = ix2 a b := ⟨x 0, x 1, by funext i; match i with | ⟨0, _⟩ => rfl | ⟨1, _⟩ => rfl⟩
    have e0 : g.val = k.rev.val + a.val := h0
    obtain rfl : r = b := Fin.ext h1
    obtain rfl : a = 0 := Subsingleton.elim _ _
    obtain rfl : g = k.rev := Fin.ext e0
    rw [zT_apply, part_row]

/-- Column `j` of the packed codes holds columns `2j` and `2j + 1` of the block. -/
theorem codes_apply (arg1 : Memref sig .tc .vmem S256x6144 .bf16) (harg1 : arg1.IsWhole) (x0 : Vec Ideal S256x6144 .bf16)
    (r : Fin 256) (j : Fin 3072) : View.canon (codesL arg1 harg1 x0) (ix2 r j) =
      Group.pack (Group.code (grp x0 r ⟨j.val / 64, by omega⟩) (x0 (ix2 r ⟨2 * j.val, by omega⟩)))
        (Group.code (grp x0 r ⟨j.val / 64, by omega⟩) (x0 (ix2 r ⟨2 * j.val + 1, by omega⟩))) := by
  canon_tiles x h
  case cover =>
    refine ⟨(⟨j.val / 128, by omega⟩ : Fin 24).rev, Fin.forall_fin_two.mpr ⟨?_, ?_⟩⟩
    · show 0 ≤ r.val ∧ r.val < 0 + 256; omega
    · rw [Fin.rev_rev]; show 128 * (j.val / 128) ≤ j.val ∧ j.val < 128 * (j.val / 128) + 128; omega
  case tile =>
    obtain ⟨a, b, rfl⟩ : ∃ (a : Fin 256) (b : Fin 128), x = ix2 a b := ⟨x 0, x 1, by funext i; match i with | ⟨0, _⟩ => rfl | ⟨1, _⟩ => rfl⟩
    have e1 : j.val = 128 * k.rev.val + b.val := h1
    obtain rfl : r = a := Fin.ext h0
    have key : ∀ (g : Fin 48) (q : Fin 64) (hq : 2 * q.val < 128) (hq' : 2 * q.val + 1 < 128), j.val = 64 * g.val + q.val →
        Group.pack (Group.code (row (part arg1 harg1 x0 g) r) (part arg1 harg1 x0 g (ix2 r ⟨2 * q.val, hq⟩)))
          (Group.code (row (part arg1 harg1 x0 g) r) (part arg1 harg1 x0 g (ix2 r ⟨2 * q.val + 1, hq'⟩))) =
        Group.pack (Group.code (grp x0 r ⟨j.val / 64, by omega⟩) (x0 (ix2 r ⟨2 * j.val, by omega⟩)))
          (Group.code (grp x0 r ⟨j.val / 64, by omega⟩) (x0 (ix2 r ⟨2 * j.val + 1, by omega⟩))) := by
      intro g q hq hq' e
      have hg : (⟨j.val / 64, by omega⟩ : Fin 48) = g := Fin.ext (by show j.val / 64 = _; omega)
      rw [part_row, part_apply, part_apply, hg]
      refine congrArg₂ _ (congrArg _ (congrArg x0 (congrArg (ix2 r) (Fin.ext ?_)))) (congrArg _ (congrArg x0 (congrArg (ix2 r) (Fin.ext ?_))))
      · show 128 * g.val + 2 * q.val = 2 * j.val; omega
      · show 128 * g.val + (2 * q.val + 1) = 2 * j.val + 1; omega
    rw [bT_apply]
    split_ifs with hb
    · exact key ⟨2 * k.rev.val, _⟩ ⟨b.val, hb⟩ _ _ (by show _ = 64 * (2 * k.rev.val) + b.val; omega)
    · exact key ⟨2 * k.rev.val + 1, _⟩ ⟨b.val - 64, by omega⟩ _ _ (by show _ = 64 * (2 * k.rev.val + 1) + (b.val - 64); omega)

/-- A dequantised weight. -/
def wdeq (x1 : Vec Ideal S1024x6144 .i8) (x2 : Vec Ideal S16x6144 .f32) (p : Fin 2048) (n : Fin 6144) : EReal :=
  (((Group.nibble (x1 (ix2 ⟨p.val / 2, by omega⟩ n)) ⟨p.val % 2, by omega⟩ : ℤ) : ℝ) : EReal) * x2 (ix2 ⟨p.val / 128, by omega⟩ n)

/-- One trip's payload at an index. -/
theorem pay2_apply (a : Vec Ideal S64x6144 .i8) (b : Vec Ideal S1x6144 .f32) (p : Fin 128) (n : Fin 6144) :
    k0_pay2 a b (ix2 p n) = (((Group.nibble (a (ix2 ⟨p.val / 2, by omega⟩ n)) ⟨p.val % 2, by omega⟩ : ℤ) : ℝ) : EReal) * b (ix2 0 n) := by
  pointwise [k0_pay2]
  refine congrArg (· * b (ix2 0 n)) ?_
  have low : (⟨p.val % 2, by omega⟩ : Fin 2) = 0 → FloatOps.sitofp (F := Ideal) FTy.bf16 (IntOp.shrsi ArithUnit.vector
      (IntOp.shli ArithUnit.vector (BitVec.setWidth 32 (a (ix2 ⟨p.val / 2, by omega⟩ n))) 28#32) 28#32)
      = (((Group.nibble (a (ix2 ⟨p.val / 2, by omega⟩ n)) ⟨p.val % 2, by omega⟩ : ℤ) : ℝ) : EReal) := fun e => by
    rw [e, ← Group.nibble_low_kernel]; rfl
  have high : (⟨p.val % 2, by omega⟩ : Fin 2) = 1 → FloatOps.sitofp (F := Ideal) FTy.bf16 (IntOp.shrsi ArithUnit.vector
      (IntOp.shli ArithUnit.vector (BitVec.setWidth 32 (a (ix2 ⟨p.val / 2, by omega⟩ n))) 24#32) 28#32)
      = (((Group.nibble (a (ix2 ⟨p.val / 2, by omega⟩ n)) ⟨p.val % 2, by omega⟩ : ℤ) : ℝ) : EReal) := fun e => by
    rw [e, ← Group.nibble_high_kernel]; rfl
  split_ifs with hp
  · exact low (Fin.ext (by show p.val % 2 = 0; omega))
  all_goals exact high (Fin.ext (by show p.val % 2 = 1; omega))

/-- The carried scratch of weights, after the loop's stores. -/
theorem w_apply (arg2 : Memref sig .tc .vmem S1024x6144 .i8) (harg2 : arg2.IsWhole) (arg3 : Memref sig .tc .vmem S16x6144 .f32)
    (harg3 : arg3.IsWhole) (x1 : Vec Ideal S1024x6144 .i8) (x2 : Vec Ideal S16x6144 .f32) (p : Fin 2048) (n : Fin 6144) :
    View.canon (wL arg2 harg2 arg3 harg3 x1 x2) (ix2 p n) = wdeq x1 x2 p n := by
  canon_tiles x h
  case cover =>
    refine ⟨(⟨p.val / 128, by omega⟩ : Fin 16).rev, Fin.forall_fin_two.mpr ⟨?_, ?_⟩⟩
    · rw [Fin.rev_rev]; show 128 * (p.val / 128) ≤ p.val ∧ p.val < 128 * (p.val / 128) + 128; omega
    · show 0 ≤ n.val ∧ n.val < 0 + 6144; omega
  case tile =>
    obtain ⟨a, b, rfl⟩ : ∃ (a : Fin 128) (b : Fin 6144), x = ix2 a b := ⟨x 0, x 1, by funext i; match i with | ⟨0, _⟩ => rfl | ⟨1, _⟩ => rfl⟩
    have e0 : p.val = 128 * k.rev.val + a.val := h0
    obtain rfl : n = b := Fin.ext h1
    rw [pay2_apply, View.readAt_eq_ld, harg2.read_unread, View.readAt_eq_ld, harg3.read_unread, wdeq]
    refine congrArg₂ _ (congrArg _ (congrArg _ (congrArg₂ _ (congrArg x1 ?_) (Fin.ext ?_)))) (congrArg x2 ?_)
    · funext i; apply Fin.ext
      match i with
      | ⟨0, _⟩ => show 64 * k.rev.val + 1 * (a.val / 2) = p.val / 2; omega
      | ⟨1, _⟩ => show 0 + 1 * n.val = n.val; omega
    · show a.val % 2 = p.val % 2; omega
    · funext i; apply Fin.ext
      match i with
      | ⟨0, _⟩ => show k.rev.val + 1 * 0 = p.val / 128; omega
      | ⟨1, _⟩ => show 0 + 1 * n.val = n.val; omega

/-- The stored zero points, transposed and read as bytes. -/
theorem zeros_pay (v : Vec Ideal S48x256 .f32) (g : Fin 48) (r : Fin 256) :
    k0_pay1019 v (ix2 r g) = (Ideal.fptosi 32 (v (ix2 g r))).setWidth 8 := by
  pointwise [k0_pay1019]
  rfl

/-- The stored scales, transposed. -/
theorem scales_pay (v : Vec Ideal S48x256 .f32) (g : Fin 48) (r : Fin 256) :
    k0_pay1018 v (ix2 r g) = v (ix2 g r) := by
  pointwise [k0_pay1018]

/-- A quarter of the product, transposed. -/
theorem dx_pay (w : Vec Ideal S512x6144 .bf16) (v : Vec Ideal S6144x256 .bf16) (p : Fin 512) (r : Fin 256) :
    k0_pay1 w v (ix2 r p) = ∑ n : Fin 6144, w (ix2 p n) * v (ix2 n r) := by
  pointwise [k0_pay1]

/-- A covered read of a whole scratch reads, at each index, what its stores leave there. -/
theorem readCov_whole {s : Shape} {e : EltTy} (M : Memref sig .tc .vmem s e) (L : List (View.Piece (Elt Ideal) s e)) (off : Fin s.rank → Nat)
    (hz : off = fun _ => 0) (inb : ∀ a, off a + s.size a ≤ s.size a) :
    M.view.readCov L (Rect.unit (s := s) off s.size inb).toLoadRect = View.canon L := by
  subst hz
  rw [View.readCov_eq_canon']
  funext j
  refine congrArg (View.canon L) ?_
  funext a; apply Fin.ext
  show 0 + 1 * (j a).val = (j a).val
  omega

/-- Two zeros are the zero offset. -/
theorem hz2 : (![0, 0] : Fin 2 → Nat) = fun _ => 0 := by funext a; match a with | ⟨0, _⟩ => rfl | ⟨1, _⟩ => rfl

/-- The scales a point stores. -/
theorem scales_apply (arg1 : Memref sig .tc .vmem S256x6144 .bf16) (harg1 : arg1.IsWhole) (arg10 : Memref sig .tc .vmem S48x256 .f32)
    (x0 : Vec Ideal S256x6144 .bf16) (r : Fin 256) (g : Fin 48) :
    View.canon (scalesL arg1 harg1 arg10 x0) (ix2 r g) = Group.scale (grp x0 r g) := by
  rw [View.canon_unit_zero hz2, scales_pay, readCov_whole _ _ _ hz2, st_apply]

/-- The zero points a point stores. -/
theorem zeros_apply (arg1 : Memref sig .tc .vmem S256x6144 .bf16) (harg1 : arg1.IsWhole) (arg11 : Memref sig .tc .vmem S48x256 .f32)
    (x0 : Vec Ideal S256x6144 .bf16) (r : Fin 256) (g : Fin 48) :
    View.canon (zerosL arg1 harg1 arg11 x0) (ix2 r g) = BitVec.ofNat 8 (Group.zero (grp x0 r g)) := by
  have hz := Group.zero_le (grp x0 r g)
  rw [View.canon_unit_zero hz2, zeros_pay, readCov_whole _ _ _ hz2, zt_apply, Group.fptosi_nat 32 _ (by omega)]
  apply BitVec.eq_of_toNat_eq
  simp only [BitVec.toNat_setWidth, BitVec.toNat_ofNat]
  omega

/-- The gradient a point stores, over the weights it multiplies by. -/
theorem dx_apply (arg1 : Memref sig .tc .vmem S256x6144 .bf16) (harg1 : arg1.IsWhole) (arg9 : Memref sig .tc .vmem S6144x256 .bf16)
    (x0 : Vec Ideal S256x6144 .bf16) (w : Fin 4 → Vec Ideal S512x6144 .bf16) (W : Vec Ideal S2048x6144 .bf16)
    (hw : ∀ (k : Fin 4) (p : Fin 512) (n : Fin 6144), w k (ix2 p n) = W (ix2 ⟨512 * k.val + p.val, by omega⟩ n))
    (r : Fin 256) (p : Fin 2048) :
    View.canon (dxL arg1 harg1 arg9 x0 w) (ix2 r p) = ∑ n : Fin 6144, W (ix2 p n) * deq x0 r n := by
  canon_tiles x h
  case cover =>
    refine ⟨(⟨p.val / 512, by omega⟩ : Fin 4).rev, Fin.forall_fin_two.mpr ⟨?_, ?_⟩⟩
    · show 0 ≤ r.val ∧ r.val < 0 + 256; omega
    · rw [Fin.rev_rev]; show 512 * (p.val / 512) ≤ p.val ∧ p.val < 512 * (p.val / 512) + 512; omega
  case tile =>
    obtain ⟨a, b, rfl⟩ : ∃ (a : Fin 256) (b : Fin 512), x = ix2 a b := ⟨x 0, x 1, by funext i; match i with | ⟨0, _⟩ => rfl | ⟨1, _⟩ => rfl⟩
    have e1 : p.val = 512 * k.rev.val + b.val := h1
    obtain rfl : r = a := Fin.ext h0
    rw [dx_pay, readCov_whole _ _ _ hz2]
    refine Finset.sum_congr rfl fun n _ => ?_
    rw [gt_apply, hw]
    exact congrArg (fun q => W (ix2 q n) * _) (Fin.ext e1.symm)

section
variable (c : Dev nD) (i : grid0.Coords) (arg1 : Memref sig .tc .vmem S256x6144 .bf16) (harg1 : arg1.IsWhole) (arg2 : Memref sig .tc .vmem S1024x6144 .i8) (harg2 : arg2.IsWhole) (arg3 : Memref sig .tc .vmem S16x6144 .f32) (harg3 : arg3.IsWhole) (arg4 : Memref sig .tc .vmem S256x2048 .bf16) (harg4 : arg4.IsWhole) (arg5 : Memref sig .tc .vmem S256x3072 .i8) (harg5 : arg5.IsWhole) (arg6 : Memref sig .tc .vmem S256x48 .f32) (harg6 : arg6.IsWhole) (arg7 : Memref sig .tc .vmem S256x48 .i8) (harg7 : arg7.IsWhole) (arg8 : Memref sig .tc .vmem S2048x6144 .bf16) (harg8 : arg8.IsWhole) (arg9 : Memref sig .tc .vmem S6144x256 .bf16) (harg9 : arg9.IsWhole) (arg10 : Memref sig .tc .vmem S48x256 .f32) (harg10 : arg10.IsWhole) (arg11 : Memref sig .tc .vmem S48x256 .f32) (harg11 : arg11.IsWhole)
    (x0 : Vec Ideal S256x6144 .bf16) (x1 : Vec Ideal S1024x6144 .i8) (x2 : Vec Ideal S16x6144 .f32) (xs0 : Vec Ideal S2048x6144 .bf16)

/-- The scales the first point writes. -/
theorem out_scales_A (hc0 : cond0_0 i) (r : Fin 256) (g : Fin 48) :
    out0_A_5 c i arg1 harg1 arg2 harg2 arg3 harg3 arg4 harg4 arg5 harg5 arg6 harg6 arg7 harg7 arg8 harg8 arg9 harg9 arg10 harg10 arg11 harg11 hc0 x0 x1 x2 (ix2 r g) = Group.scale (grp x0 r g) := by
  rw [out0_A_5, View.read_writes_junk_eq_canon, run_scales_A, scales_apply]
/-- The scales a later point writes. -/
theorem out_scales_B (hc0 : ¬ cond0_0 i) (r : Fin 256) (g : Fin 48) :
    out0_B_5 c i arg1 harg1 arg2 harg2 arg3 harg3 arg4 harg4 arg5 harg5 arg6 harg6 arg7 harg7 arg8 harg8 arg9 harg9 arg10 harg10 arg11 harg11 hc0 x0 x1 x2 xs0 (ix2 r g) = Group.scale (grp x0 r g) := by
  rw [out0_B_5, View.read_writes_junk_eq_canon, run_scales_B, scales_apply]
/-- The zero points the first point writes. -/
theorem out_zeros_A (hc0 : cond0_0 i) (r : Fin 256) (g : Fin 48) :
    out0_A_6 c i arg1 harg1 arg2 harg2 arg3 harg3 arg4 harg4 arg5 harg5 arg6 harg6 arg7 harg7 arg8 harg8 arg9 harg9 arg10 harg10 arg11 harg11 hc0 x0 x1 x2 (ix2 r g) = BitVec.ofNat 8 (Group.zero (grp x0 r g)) := by
  rw [out0_A_6, View.read_writes_junk_eq_canon, run_zeros_A, zeros_apply]
/-- The zero points a later point writes. -/
theorem out_zeros_B (hc0 : ¬ cond0_0 i) (r : Fin 256) (g : Fin 48) :
    out0_B_6 c i arg1 harg1 arg2 harg2 arg3 harg3 arg4 harg4 arg5 harg5 arg6 harg6 arg7 harg7 arg8 harg8 arg9 harg9 arg10 harg10 arg11 harg11 hc0 x0 x1 x2 xs0 (ix2 r g) = BitVec.ofNat 8 (Group.zero (grp x0 r g)) := by
  rw [out0_B_6, View.read_writes_junk_eq_canon, run_zeros_B, zeros_apply]
/-- The packed codes of a block. -/
def packed (x0 : Vec Ideal S256x6144 .bf16) (r : Fin 256) (j : Fin 3072) : BitVec 8 :=
  Group.pack (Group.code (grp x0 r ⟨j.val / 64, by omega⟩) (x0 (ix2 r ⟨2 * j.val, by omega⟩)))
    (Group.code (grp x0 r ⟨j.val / 64, by omega⟩) (x0 (ix2 r ⟨2 * j.val + 1, by omega⟩)))
/-- The packed codes the first point writes. -/
theorem out_codes_A (hc0 : cond0_0 i) (r : Fin 256) (j : Fin 3072) :
    out0_A_4 c i arg1 harg1 arg2 harg2 arg3 harg3 arg4 harg4 arg5 harg5 arg6 harg6 arg7 harg7 arg8 harg8 arg9 harg9 arg10 harg10 arg11 harg11 hc0 x0 x1 x2 (ix2 r j) = packed x0 r j := by
  rw [out0_A_4, View.read_writes_junk_eq_canon, run_codes_A, codes_apply, packed]
/-- The packed codes a later point writes. -/
theorem out_codes_B (hc0 : ¬ cond0_0 i) (r : Fin 256) (j : Fin 3072) :
    out0_B_4 c i arg1 harg1 arg2 harg2 arg3 harg3 arg4 harg4 arg5 harg5 arg6 harg6 arg7 harg7 arg8 harg8 arg9 harg9 arg10 harg10 arg11 harg11 hc0 x0 x1 x2 xs0 (ix2 r j) = packed x0 r j := by
  rw [out0_B_4, View.read_writes_junk_eq_canon, run_codes_B, codes_apply, packed]
/-- What the first point leaves in the carried scratch. -/
theorem out_w_A (hc0 : cond0_0 i) (p : Fin 2048) (n : Fin 6144) :
    sout0_A_0 c i arg1 harg1 arg2 harg2 arg3 harg3 arg4 harg4 arg5 harg5 arg6 harg6 arg7 harg7 arg8 harg8 arg9 harg9 arg10 harg10 arg11 harg11 hc0 x0 x1 x2 (ix2 p n) = wdeq x1 x2 p n := by
  rw [sout0_A_0, View.read_writes_junk_eq_canon, run_w_A, w_apply]
/-- The gradient at the first point. -/
theorem out_dx_A (hc0 : cond0_0 i) (r : Fin 256) (p : Fin 2048) :
    out0_A_3 c i arg1 harg1 arg2 harg2 arg3 harg3 arg4 harg4 arg5 harg5 arg6 harg6 arg7 harg7 arg8 harg8 arg9 harg9 arg10 harg10 arg11 harg11 hc0 x0 x1 x2 (ix2 r p) = ∑ n : Fin 6144, wdeq x1 x2 p n * deq x0 r n := by
  rw [out0_A_3, View.read_writes_junk_eq_canon, run_dx_A,
    dx_apply arg1 harg1 arg9 x0 _ (View.canon (wL arg2 harg2 arg3 harg3 x1 x2)) ?_]
  · exact Finset.sum_congr rfl fun n _ => by rw [w_apply]
  · intro k q n
    rw [View.readCov_eq_canon']
    refine congrArg (View.canon _) ?_
    funext a; apply Fin.ext
    match a with
    | ⟨0, _⟩ => show 512 * k.val + 1 * q.val = 512 * k.val + q.val; omega
    | ⟨1, _⟩ => show 0 + 1 * n.val = n.val; omega
/-- The gradient at a later point, over the carried weights. -/
theorem out_dx_B (hc0 : ¬ cond0_0 i) (r : Fin 256) (p : Fin 2048) :
    out0_B_3 c i arg1 harg1 arg2 harg2 arg3 harg3 arg4 harg4 arg5 harg5 arg6 harg6 arg7 harg7 arg8 harg8 arg9 harg9 arg10 harg10 arg11 harg11 hc0 x0 x1 x2 xs0 (ix2 r p) = ∑ n : Fin 6144, xs0 (ix2 p n) * deq x0 r n := by
  rw [out0_B_3, View.read_writes_junk_eq_canon, run_dx_B, dx_apply arg1 harg1 arg9 x0 _ xs0 ?_]
  intro k q n
  rw [View.readAt_eq_ld, harg8.read_unread]
  refine congrArg xs0 ?_
  funext a; apply Fin.ext
  match a with
  | ⟨0, _⟩ => show 512 * k.val + 1 * q.val = 512 * k.val + q.val; omega
  | ⟨1, _⟩ => show 0 + 1 * n.val = n.val; omega
end

end Cert.KernelIdeal.Gen
end
-- ==== Proof.Array.lean ====
/-
  The kernel's four result arrays, read at an index over the extended reals, as functions of the launch memory.
-/
module

public import proofs.«01_k».proof.Proof.Block

@[expose] public section
noncomputable section

namespace Cert.KernelIdeal.Gen
open Idealize.ShloMosaic Idealize.ShloMosaic.TcCoe
open Cert.Proof Cert.KernelIdeal.Value

variable (m : (ℓ : Loc nD τ sig) → Buf (Elt Ideal) ℓ) (c : Dev nD)

/-- The gradient's rows as the region finds them. -/
abbrev gradRows : Vec Ideal S12288x6144 .bf16 := V m c main_v0

/-- The first window moves down with the grid point. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The packed weights' window stays put. -/
theorem idx_facts1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The weights' scales' window stays put. -/
theorem idx_facts2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Point `t`'s block of the gradient is its rows `256 t …`. -/
theorem iblk0_apply (t : Fin cfg0.N) (r : Fin 256) (n : Fin 6144) (T : Fin 12288) (hT : T.val = 256 * t.val + r.val) :
    (iblk m c 0 t : Vec Ideal S256x6144 .bf16) (ix2 r n) = gradRows m c (ix2 T n) := by
  obtain ⟨e0, e1⟩ := idx_facts0 t
  unfold iblk
  rw [View.read_apply]
  refine congrArg (V m c main_v0) ?_
  funext a; apply Fin.ext
  match a with
  | ⟨0, _⟩ => show win0_0.index t (0 : Fin 2) * 256 + 1 * r.val = T.val; omega
  | ⟨1, _⟩ => show win0_0.index t (1 : Fin 2) * 6144 + 1 * n.val = n.val; omega

/-- Every point reads the whole of the packed weights. -/
theorem iblk1_eq (t : Fin cfg0.N) : (iblk m c 1 t : Vec Ideal S1024x6144 .i8) = m ((c : Thread nD τ).loc main_arg1) := by
  obtain ⟨e0, e1⟩ := idx_facts1 t
  unfold iblk
  rw [show V m c (Pipeline.arrRef spec0 1) = m ((c : Thread nD τ).loc main_arg1) from V_main_arg1 m c]
  funext y
  rw [View.read_apply]
  refine congrArg (m ((c : Thread nD τ).loc main_arg1)) ?_
  funext a; apply Fin.ext
  match a with
  | ⟨0, _⟩ => show win0_1.index t (0 : Fin 2) * 1024 + 1 * (y 0).val = (y 0).val; omega
  | ⟨1, _⟩ => show win0_1.index t (1 : Fin 2) * 6144 + 1 * (y 1).val = (y 1).val; omega

/-- Every point reads the whole of the weights' scales. -/
theorem iblk2_eq (t : Fin cfg0.N) : (iblk m c 2 t : Vec Ideal S16x6144 .f32) = m ((c : Thread nD τ).loc main_arg2) := by
  obtain ⟨e0, e1⟩ := idx_facts2 t
  unfold iblk
  rw [show V m c (Pipeline.arrRef spec0 2) = m ((c : Thread nD τ).loc main_arg2) from V_main_arg2 m c]
  funext y
  rw [View.read_apply]
  refine congrArg (m ((c : Thread nD τ).loc main_arg2)) ?_
  funext a; apply Fin.ext
  match a with
  | ⟨0, _⟩ => show win0_2.index t (0 : Fin 2) * 16 + 1 * (y 0).val = (y 0).val; omega
  | ⟨1, _⟩ => show win0_2.index t (1 : Fin 2) * 6144 + 1 * (y 1).val = (y 1).val; omega

/-- The tokens numbered through: row `T` is token `T % 512` of batch entry `T / 512`. -/
theorem flat_apply (x : Vec Ideal S24x512x6144 .bf16) (h : S24x512x6144.ShapeCasts S12288x6144) (T : Fin 12288) (n : Fin 6144) :
    shapeCast S12288x6144 x h (ix2 T n) = x (ix3 ⟨T.val / 512, by omega⟩ ⟨T.val % 512, by omega⟩ n) := by
  refine shapeCast_apply _ _ _ _ ?_
  rewrite [Shape.rowMajor_val_three, Shape.rowMajor_val_two]
  show (T.val / 512 * 512 + T.val % 512) * 6144 + n.val = T.val * 6144 + n.val
  omega

/-- The gradient's rows are the flattened argument. -/
theorem gradRows_apply (T : Fin 12288) (n : Fin 6144) : gradRows m c (ix2 T n) =
    (m ((c : Thread nD τ).loc main_arg0) : Vec Ideal S24x512x6144 .bf16) (ix3 ⟨T.val / 512, by omega⟩ ⟨T.val % 512, by omega⟩ n) := by
  have e : gradRows m c = shapeCast S12288x6144 (m ((c : Thread nD τ).loc main_arg0) : Vec Ideal S24x512x6144 .bf16)
      shapeCasts_S24x512x6144_S12288x6144 := rfl
  rw [e]
  exact flat_apply _ _ _ _

/-- The weights carried from the first point on. -/
abbrev wts (p : Fin 2048) (n : Fin 6144) : EReal := wdeq (m ((c : Thread nD τ).loc main_arg1)) (m ((c : Thread nD τ).loc main_arg2)) p n

/-- Every point leaves the dequantised weights in the carried scratch. -/
theorem carried (n : ℕ) (hn : n < cfg0.N) (p : Fin 2048) (k : Fin 6144) : (outsAt0 m c n hn).2.2.2.2 (ix2 p k) = wts m c p k := by
  induction n with
  | zero =>
    rw [outsAt0_A m c ⟨0, hn⟩ rfl]
    dsimp only
    rw [out_w_A, iblk1_eq, iblk2_eq]
  | succ n ih =>
    have hN := lt_of_lt_of_eq hn (show cfg0.N = 48 from N_0)
    rw [outsAt0_B m c ⟨n + 1, hn⟩ (by show ¬ (n + 1) % 48 = 0; omega)]
    exact ih _

variable (t : Fin cfg0.N) (r : Fin 256)

/-- The scales a point writes, whichever case it is. -/
theorem outs_scales (g : Fin 48) : (outsAt0 m c t.val t.isLt).2.2.1 (ix2 r g) = Group.scale (grp (iblk m c 0 t) r g) := by
  by_cases h : t.val % 48 = 0
  · rw [outsAt0_A m c t h]; dsimp only; rw [out_scales_A]
  · rw [outsAt0_B m c t h]; dsimp only; rw [out_scales_B]
/-- The zero points a point writes, whichever case it is. -/
theorem outs_zeros (g : Fin 48) : (outsAt0 m c t.val t.isLt).2.2.2.1 (ix2 r g) = BitVec.ofNat 8 (Group.zero (grp (iblk m c 0 t) r g)) := by
  by_cases h : t.val % 48 = 0
  · rw [outsAt0_A m c t h]; dsimp only; rw [out_zeros_A]
  · rw [outsAt0_B m c t h]; dsimp only; rw [out_zeros_B]
/-- The packed codes a point writes, whichever case it is. -/
theorem outs_codes (j : Fin 3072) : (outsAt0 m c t.val t.isLt).2.1 (ix2 r j) = packed (iblk m c 0 t) r j := by
  by_cases h : t.val % 48 = 0
  · rw [outsAt0_A m c t h]; dsimp only; rw [out_codes_A]
  · rw [outsAt0_B m c t h]; dsimp only; rw [out_codes_B]
/-- The gradient a point writes: its kept weights were written by the first point. -/
theorem outs_dx (p : Fin 2048) : (outsAt0 m c t.val t.isLt).1 (ix2 r p) = ∑ n : Fin 6144, wts m c p n * deq (iblk m c 0 t) r n := by
  by_cases h : t.val % 48 = 0
  · rw [outsAt0_A m c t h]
    dsimp only
    rw [out_dx_A, iblk1_eq, iblk2_eq]
  · rw [outsAt0_B m c t h]
    dsimp only
    rw [out_dx_B]
    exact Finset.sum_congr rfl fun n _ => by rw [carried]

/-- The point and the row in it that hold row `T` of the results. -/
abbrev pt (T : Fin 12288) : Fin cfg0.N := ⟨T.val / 256, by rw [show cfg0.N = 48 from N_0]; omega⟩
/-- The row of a token within its block. -/
abbrev rw' (T : Fin 12288) : Fin 256 := ⟨T.val % 256, by omega⟩

/-- A row of the flattened gradient. -/
def gradRow (T : Fin 12288) : Fin 6144 → EReal := fun n =>
  (m ((c : Thread nD τ).loc main_arg0) : Vec Ideal S24x512x6144 .bf16) (ix3 ⟨T.val / 512, by omega⟩ ⟨T.val % 512, by omega⟩ n)

/-- A token's row, read in the block of its point. -/
theorem blk_row (T : Fin 12288) (n : Fin 6144) : (iblk m c 0 (pt T) : Vec Ideal S256x6144 .bf16) (ix2 (rw' T) n) = gradRow m c T n := by
  rw [iblk0_apply m c (pt T) (rw' T) n T (by show T.val = 256 * (T.val / 256) + T.val % 256; omega), gradRows_apply, gradRow]

/-- A row's 128-column group. -/
def rowGrp (a : Fin 6144 → EReal) (g : Fin 48) : Fin 128 → EReal := fun k => a ⟨128 * g.val + k.val, by omega⟩

/-- A row's packed codes. -/
def rowPacked (a : Fin 6144 → EReal) (j : Fin 3072) : BitVec 8 :=
  Group.pack (Group.code (rowGrp a ⟨j.val / 64, by omega⟩) (a ⟨2 * j.val, by omega⟩))
    (Group.code (rowGrp a ⟨j.val / 64, by omega⟩) (a ⟨2 * j.val + 1, by omega⟩))

/-- A row's dequantised values. -/
def rowDeq (a : Fin 6144 → EReal) (n : Fin 6144) : EReal :=
  (((Group.code (rowGrp a (gof n)) (a n) : ℝ) - (Group.zero (rowGrp a (gof n)) : ℝ) : ℝ) : EReal) * Group.scale (rowGrp a (gof n))

/-- A row of the input gradient: the dequantised row against the dequantised weights. -/
def rowDx (w : Fin 2048 → Fin 6144 → EReal) (a : Fin 6144 → EReal) (p : Fin 2048) : EReal := ∑ n : Fin 6144, w p n * rowDeq a n

/-- A group of a token's row, read in the block of its point. -/
theorem grp_row (T : Fin 12288) (g : Fin 48) : grp (iblk m c 0 (pt T)) (rw' T) g = rowGrp (gradRow m c T) g :=
  funext fun k => blk_row m c T _

/-- The scales the kernel returns. -/
theorem G5_apply (T : Fin 12288) (g : Fin 48) : (G5 m c : Vec Ideal S12288x48 .f32) (ix2 T g) =
    Group.scale (rowGrp (gradRow m c T) g) := by
  have hN : cfg0.N = 48 := N_0
  have hp : pt5Of (ix2 T g) = T.val / 256 := by
    show 1 * (T.val / 256 - 0) + 1 * (g.val / 48 - 0) = _; omega
  have hl : loc5Of (ix2 T g) = ix2 (rw' T) g := by
    funext a; apply Fin.ext
    match a with
    | ⟨0, _⟩ => rfl
    | ⟨1, _⟩ => show g.val % 48 = g.val; omega
  unfold G5
  rw [dif_pos (by rw [hp, hN]; omega), hl, fold0_congr m c _ _ (T.val / 256) (by rw [hN]; omega) hp, ← outsAt0_sweep m c _ (pt T).isLt]
  rw [outs_scales m c (pt T) (rw' T) g, grp_row]

/-- The zero points the kernel returns. -/
theorem G6_apply (T : Fin 12288) (g : Fin 48) : (G6 m c : Vec Ideal S12288x48 .i8) (ix2 T g) =
    BitVec.ofNat 8 (Group.zero (rowGrp (gradRow m c T) g)) := by
  have hN : cfg0.N = 48 := N_0
  have hp : pt6Of (ix2 T g) = T.val / 256 := by
    show 1 * (T.val / 256 - 0) + 1 * (g.val / 48 - 0) = _; omega
  have hl : loc6Of (ix2 T g) = ix2 (rw' T) g := by
    funext a; apply Fin.ext
    match a with
    | ⟨0, _⟩ => rfl
    | ⟨1, _⟩ => show g.val % 48 = g.val; omega
  unfold G6
  rw [dif_pos (by rw [hp, hN]; omega), hl, fold0_congr m c _ _ (T.val / 256) (by rw [hN]; omega) hp, ← outsAt0_sweep m c _ (pt T).isLt]
  rw [outs_zeros m c (pt T) (rw' T) g, grp_row]

/-- The packed codes the kernel returns. -/
theorem G4_apply (T : Fin 12288) (g : Fin 3072) : (G4 m c : Vec Ideal S12288x3072 .i8) (ix2 T g) =
    rowPacked (gradRow m c T) g := by
  have hN : cfg0.N = 48 := N_0
  have hp : pt4Of (ix2 T g) = T.val / 256 := by
    show 1 * (T.val / 256 - 0) + 1 * (g.val / 3072 - 0) = _; omega
  have hl : loc4Of (ix2 T g) = ix2 (rw' T) g := by
    funext a; apply Fin.ext
    match a with
    | ⟨0, _⟩ => rfl
    | ⟨1, _⟩ => show g.val % 3072 = g.val; omega
  unfold G4
  rw [dif_pos (by rw [hp, hN]; omega), hl, fold0_congr m c _ _ (T.val / 256) (by rw [hN]; omega) hp, ← outsAt0_sweep m c _ (pt T).isLt]
  rw [outs_codes m c (pt T) (rw' T) g, packed, rowPacked, grp_row, blk_row, blk_row]

/-- The block's sum of products is the row's. -/
theorem sum_row (T : Fin 12288) (p : Fin 2048) :
    (∑ n : Fin 6144, wts m c p n * deq (iblk m c 0 (pt T)) (rw' T) n) = rowDx (wts m c) (gradRow m c T) p :=
  Finset.sum_congr rfl fun n _ => by rw [deq, rowDeq, grp_row, blk_row]

/-- The input gradient the kernel returns. -/
theorem G3_apply (T : Fin 12288) (g : Fin 2048) : (G3 m c : Vec Ideal S12288x2048 .bf16) (ix2 T g) =
    rowDx (wts m c) (gradRow m c T) g := by
  have hN : cfg0.N = 48 := N_0
  have hp : pt3Of (ix2 T g) = T.val / 256 := by
    show 1 * (T.val / 256 - 0) + 1 * (g.val / 2048 - 0) = _; omega
  have hl : loc3Of (ix2 T g) = ix2 (rw' T) g := by
    funext a; apply Fin.ext
    match a with
    | ⟨0, _⟩ => rfl
    | ⟨1, _⟩ => show g.val % 2048 = g.val; omega
  unfold G3
  rw [dif_pos (by rw [hp, hN]; omega), hl, fold0_congr m c _ _ (T.val / 256) (by rw [hN]; omega) hp, ← outsAt0_sweep m c _ (pt T).isLt]
  exact (outs_dx m c (pt T) (rw' T) g).trans (sum_row m c T g)

end Cert.KernelIdeal.Gen
end
-- ==== Proof.RefOut.lean ====
/-
  The reference's four results, read at an index over the extended reals, as the kernel's are.
-/
module

public import proofs.«01_k».proof.Proof.RefRow
public import proofs.«01_k».proof.Proof.Array

@[expose] public section
noncomputable section

namespace Cert.ReferenceIdeal.Read
open Cert.ReferenceIdeal Cert.ReferenceIdeal.Gen Idealize.ShloMosaic Idealize.ShloMosaic.TcCoe
open Cert.Proof
open Cert.KernelIdeal.Gen (rowGrp rowDeq rowPacked rowDx wdeq gof)

variable (x : Vec Ideal S24x512x6144 .bf16) (x1 : Vec Ideal S1024x6144 .i8) (x2 : Vec Ideal S16x6144 .f32) (b : Fin 24) (s : Fin 512)

/-- A token's row. -/
abbrev tok : Fin 6144 → EReal := fun n => x (ix3 b s n)

/-- A column, found in its group. -/
theorem rgrp_eq (n : Fin 6144) : rgrp x b s (gof n) ⟨n.val % 128, by omega⟩ = tok x b s n :=
  congrArg (fun q => x (ix3 b s q)) (Fin.ext (by show 128 * (n.val / 128) + n.val % 128 = n.val; omega))

/-- The dequantised gradient. -/
theorem v46_apply (n : Fin 6144) : val_main_v46 (F := Ideal) x (ix3 b s n) = rowDeq (tok x b s) n := by
  rw [val_main_v46_apply]
  refine (congrArg (val_main_v45 x) (?_ : _ = ix4 b s (gof n) ⟨n.val % 128, by omega⟩)).trans ?_
  · funext a; apply Fin.ext
    match a with
    | ⟨0, _⟩ => show ((b.val * 512 + s.val) * 6144 + n.val) / 3145728 = b.val; omega
    | ⟨1, _⟩ => show ((b.val * 512 + s.val) * 6144 + n.val) / 6144 % 512 = s.val; omega
    | ⟨2, _⟩ => show ((b.val * 512 + s.val) * 6144 + n.val) / 128 % 48 = n.val / 128; omega
    | ⟨3, _⟩ => show ((b.val * 512 + s.val) * 6144 + n.val) % 128 = n.val % 128; omega
  · rw [v45_apply, rgrp_eq]; rfl

/-- A column's code, as a byte. -/
theorem v28_apply (n : Fin 6144) : val_main_v28 (F := Ideal) x (ix3 b s n) =
    (BitVec.ofNat 32 (Group.code (rowGrp (tok x b s) (gof n)) (tok x b s n))).setWidth 8 := by
  rw [val_main_v28_apply]
  refine (congrArg (val_main_v25 x) (?_ : _ = ix4 b s (gof n) ⟨n.val % 128, by omega⟩)).trans ?_
  · funext a; apply Fin.ext
    match a with
    | ⟨0, _⟩ => show ((b.val * 512 + s.val) * 6144 + n.val) / 3145728 = b.val; omega
    | ⟨1, _⟩ => show ((b.val * 512 + s.val) * 6144 + n.val) / 6144 % 512 = s.val; omega
    | ⟨2, _⟩ => show ((b.val * 512 + s.val) * 6144 + n.val) / 128 % 48 = n.val / 128; omega
    | ⟨3, _⟩ => show ((b.val * 512 + s.val) * 6144 + n.val) % 128 = n.val % 128; omega
  · rw [v25_apply, rgrp_eq]; rfl

/-- The even columns' codes. -/
theorem v30_apply (j : Fin 3072) : val_main_v30 (F := Ideal) x (ix3 b s j) =
    val_main_v29 (F := Ideal) x (ix3 b s ⟨2 * j.val, by omega⟩) := by
  pointwise [val_main_v30]

/-- The odd columns' codes. -/
theorem v31_apply (j : Fin 3072) : val_main_v31 (F := Ideal) x (ix3 b s j) =
    val_main_v29 (F := Ideal) x (ix3 b s ⟨2 * j.val + 1, by omega⟩) := by
  pointwise [val_main_v31]
  all_goals exact congrArg (val_main_v29 x) (congrArg (ix3 b s) (Fin.ext (by show 1 + 2 * j.val = 2 * j.val + 1; omega)))

/-- The packed codes: two neighbouring columns lie in one group, and share a byte. -/
theorem v35_apply (j : Fin 3072) : val_main_v35 (F := Ideal) x (ix3 b s j) = rowPacked (tok x b s) j := by
  rw [val_main_v35_apply, val_main_v34_apply, val_main_v33_apply, v30_apply, v31_apply, val_main_v29_apply,
    val_main_v29_apply, v28_apply, v28_apply]
  have e0 : gof ⟨2 * j.val, by omega⟩ = ⟨j.val / 64, by omega⟩ := Fin.ext (by show 2 * j.val / 128 = j.val / 64; omega)
  have e1 : gof ⟨2 * j.val + 1, by omega⟩ = ⟨j.val / 64, by omega⟩ :=
    Fin.ext (by show (2 * j.val + 1) / 128 = j.val / 64; omega)
  rw [e0, e1]
  pointwise [val_main_v32, val_main_c]
  exact Group.pack_reference _ _ (Group.code_le _ _) (Group.code_le _ _)

/-- The packed weights' low half, scaled: the even rows of the weight. -/
theorem v59_apply (i : Fin 1024) (n : Fin 6144) : val_main_v59 (F := Ideal) x1 x2 (ix2 i n) =
    (((Group.nibble (x1 (ix2 i n)) 0 : ℤ) : ℝ) : EReal) * x2 (ix2 ⟨i.val / 64, by omega⟩ n) := by
  pointwise [val_main_v59, val_main_v58, val_main_v57, val_main_v56, val_main_v54, val_main_v52, val_main_v47, val_main_v50,
    val_main_v51, val_main_v49, val_main_v48, val_main_v53, val_main_v55, val_main_c_7, val_main_c_8, val_main_c_9]
  exact congrArg (fun z : ℤ => ((z : ℝ) : EReal) * x2 (ix2 ⟨i.val / 64, by omega⟩ n)) (Group.nibble_low_reference _)

/-- The packed weights' high half, scaled: the odd rows of the weight. -/
theorem v68_apply (i : Fin 1024) (n : Fin 6144) : val_main_v68 (F := Ideal) x1 x2 (ix2 i n) =
    (((Group.nibble (x1 (ix2 i n)) 1 : ℤ) : ℝ) : EReal) * x2 (ix2 ⟨i.val / 64, by omega⟩ n) := by
  pointwise [val_main_v68, val_main_v67, val_main_v66, val_main_v65, val_main_v63, val_main_v61, val_main_v47, val_main_v50,
    val_main_v60, val_main_v49, val_main_v48, val_main_v62, val_main_v64, val_main_c_10, val_main_c_11, val_main_c_12]
  exact congrArg (fun z : ℤ => ((z : ℝ) : EReal) * x2 (ix2 ⟨i.val / 64, by omega⟩ n)) (Group.nibble_high_reference _)

/-- A sum of products is the row's output once its factors are the row's. -/
theorem dx_of (L W : Fin 6144 → EReal) (w : Fin 2048 → Fin 6144 → EReal) (a : Fin 6144 → EReal) (p : Fin 2048)
    (hL : ∀ n, L n = rowDeq a n) (hW : ∀ n, W n = w p n) : ∑ n, L n * W n = rowDx w a p := by
  unfold rowDx
  refine Finset.sum_congr rfl fun n _ => ?_
  rw [hL, hW, mul_comm]

/-- The weight's row `2 * i + d` is the half `d` of the packed row `i`. -/
theorem wdeq_half (i : Fin 1024) (d : Fin 2) (n : Fin 6144) (p : Fin 2048) (hp : p.val = 2 * i.val + d.val) :
    (((Group.nibble (x1 (ix2 i n)) d : ℤ) : ℝ) : EReal) * x2 (ix2 ⟨i.val / 64, by omega⟩ n) = wdeq x1 x2 p n := by
  unfold wdeq
  have e1 : (⟨p.val / 2, by omega⟩ : Fin 1024) = i := Fin.ext (by show p.val / 2 = i.val; omega)
  have e2 : (⟨p.val % 2, by omega⟩ : Fin 2) = d := Fin.ext (by show p.val % 2 = d.val; omega)
  have e3 : (⟨p.val / 128, by omega⟩ : Fin 16) = ⟨i.val / 64, by omega⟩ := Fin.ext (by show p.val / 128 = i.val / 64; omega)
  rw [e1, e2, e3]

/-- The product with the even rows. -/
theorem v69_apply (i : Fin 1024) (p : Fin 2048) (hp : p.val = 2 * i.val) :
    val_main_v69 (F := Ideal) x x1 x2 (ix3 b s i) = rowDx (wdeq x1 x2) (tok x b s) p :=
  (val_main_v69_apply x x1 x2 (ix3 b s i)).trans (dx_of _ _ _ _ p
    (fun n => (congrArg (val_main_v46 x) (by funext a; match a with | ⟨0, _⟩ => rfl | ⟨1, _⟩ => rfl | ⟨2, _⟩ => rfl)).trans
      (v46_apply x b s n))
    (fun n => (congrArg (val_main_v59 x1 x2) (by funext a; match a with | ⟨0, _⟩ => rfl | ⟨1, _⟩ => rfl)).trans
      ((v59_apply x1 x2 i n).trans (wdeq_half x1 x2 i 0 n p hp))))

/-- The product with the odd rows. -/
theorem v70_apply (i : Fin 1024) (p : Fin 2048) (hp : p.val = 2 * i.val + 1) :
    val_main_v70 (F := Ideal) x x1 x2 (ix3 b s i) = rowDx (wdeq x1 x2) (tok x b s) p :=
  (val_main_v70_apply x x1 x2 (ix3 b s i)).trans (dx_of _ _ _ _ p
    (fun n => (congrArg (val_main_v46 x) (by funext a; match a with | ⟨0, _⟩ => rfl | ⟨1, _⟩ => rfl | ⟨2, _⟩ => rfl)).trans
      (v46_apply x b s n))
    (fun n => (congrArg (val_main_v68 x1 x2) (by funext a; match a with | ⟨0, _⟩ => rfl | ⟨1, _⟩ => rfl)).trans
      ((v68_apply x1 x2 i n).trans (wdeq_half x1 x2 i 1 n p hp))))

/-- The two products, side by side: the even rows' first. -/
theorem v73_apply (i : Fin 1024) (d : Fin 2) (p : Fin 2048) (hp : p.val = 2 * i.val + d.val) :
    val_main_v73 (F := Ideal) x x1 x2 (ix4 b s i d) = rowDx (wdeq x1 x2) (tok x b s) p := by
  unfold val_main_v73
  match d, hp with
  | 0, hp =>
    refine (concatenate_pair_apply_left (t := S24x512x1024x2) 3 (val_main_v71 x x1 x2) (val_main_v72 x x1 x2) _
      (ix4 b s i 0) rfl (ix4 b s i 0) (fun a => by
        match a with
        | ⟨0, _⟩ => rfl
        | ⟨1, _⟩ => rfl
        | ⟨2, _⟩ => rfl
        | ⟨3, _⟩ => rfl)).trans ?_
    rw [val_main_v71_apply]
    refine (congrArg (val_main_v69 x x1 x2) ?_).trans (v69_apply x x1 x2 b s i p hp)
    funext a; match a with | ⟨0, _⟩ => rfl | ⟨1, _⟩ => rfl | ⟨2, _⟩ => rfl
  | 1, hp =>
    refine (concatenate_pair_apply_right (t := S24x512x1024x2) 3 (val_main_v71 x x1 x2) (val_main_v72 x x1 x2) _
      (ix4 b s i 1) rfl rfl (ix4 b s i 0) (fun a ha => by
        match a, ha with
        | ⟨0, _⟩, _ => rfl
        | ⟨1, _⟩, _ => rfl
        | ⟨2, _⟩, _ => rfl
        | ⟨3, _⟩, h => exact absurd rfl h) (by rfl)).trans ?_
    rw [val_main_v72_apply]
    refine (congrArg (val_main_v70 x x1 x2) ?_).trans (v70_apply x x1 x2 b s i p hp)
    funext a; match a with | ⟨0, _⟩ => rfl | ⟨1, _⟩ => rfl | ⟨2, _⟩ => rfl

/-- The two products, interleaved. -/
theorem v74_apply (p : Fin 2048) : val_main_v74 (F := Ideal) x x1 x2 (ix3 b s p) = rowDx (wdeq x1 x2) (tok x b s) p := by
  rw [val_main_v74_apply]
  refine (congrArg (val_main_v73 x x1 x2) (?_ : _ = ix4 b s ⟨p.val / 2, by omega⟩ ⟨p.val % 2, by omega⟩)).trans
    (v73_apply x x1 x2 b s _ _ p (by show p.val = 2 * (p.val / 2) + p.val % 2; omega))
  funext a; apply Fin.ext
  match a with
  | ⟨0, _⟩ => show ((b.val * 512 + s.val) * 2048 + p.val) / 1048576 = b.val; omega
  | ⟨1, _⟩ => show ((b.val * 512 + s.val) * 2048 + p.val) / 2048 % 512 = s.val; omega
  | ⟨2, _⟩ => show ((b.val * 512 + s.val) * 2048 + p.val) / 2 % 1024 = p.val / 2; omega
  | ⟨3, _⟩ => show ((b.val * 512 + s.val) * 2048 + p.val) % 2 = p.val % 2; omega

variable (T : Fin 12288)

/-- A token's row, the tokens numbered through. -/
abbrev flatTok : Fin 6144 → EReal := tok x ⟨T.val / 512, by omega⟩ ⟨T.val % 512, by omega⟩

/-- The first result: the activations' gradient. -/
theorem v76_apply (p : Fin 2048) :
    val_main_v76 (F := Ideal) x x1 x2 (ix2 T p) = rowDx (wdeq x1 x2) (flatTok x T) p := by
  rw [val_main_v76_apply, val_main_v75_apply]
  refine (congrArg (val_main_v74 x x1 x2)
    (?_ : _ = ix3 ⟨T.val / 512, by omega⟩ ⟨T.val % 512, by omega⟩ p)).trans (v74_apply x x1 x2 _ _ p)
  funext a; apply Fin.ext
  match a with
  | ⟨0, _⟩ => show (T.val * 2048 + p.val) / 1048576 = T.val / 512; omega
  | ⟨1, _⟩ => show (T.val * 2048 + p.val) / 2048 % 512 = T.val % 512; omega
  | ⟨2, _⟩ => show (T.val * 2048 + p.val) % 2048 = p.val; omega

/-- The second result: the packed codes. -/
theorem v77_apply (j : Fin 3072) : val_main_v77 (F := Ideal) x (ix2 T j) = rowPacked (flatTok x T) j := by
  pointwise [val_main_v77]
  exact v35_apply x _ _ j

/-- The third result: the scales. -/
theorem v78_apply (g : Fin 48) : val_main_v78 (F := Ideal) x (ix2 T g) = Group.scale (rowGrp (flatTok x T) g) := by
  pointwise [val_main_v78]
  exact v12_apply x _ _ g

/-- The fourth result: the zero points. -/
theorem v79_apply (g : Fin 48) :
    val_main_v79 (F := Ideal) x (ix2 T g) = BitVec.ofNat 8 (Group.zero (rowGrp (flatTok x T) g)) := by
  pointwise [val_main_v79]
  refine (v27_apply x _ _ g).trans ?_
  exact BitVec.setWidth_ofNat_of_le (by decide) _

end Cert.ReferenceIdeal.Read
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal
public import proofs.«01_k».proof.Proof.RefOut
public import Idealize.ShloMosaic.Adequacy
public import Idealize.ShloMosaic.Init

@[expose] public section

noncomputable section

namespace Cert.Proof

open Idealize.ShloMosaic Idealize.SL.Sem Cert.Kernel

/-- The reference's frame: its run leaves the arguments alone, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

section
open Cert.KernelIdeal Cert.KernelIdeal.Gen Cert.KernelIdeal.Value Cert.ReferenceIdeal.Read

variable (m : (ℓ : Loc Cert.KernelIdeal.nD Cert.KernelIdeal.τ Cert.KernelIdeal.sig) → Buf (Elt Ideal) ℓ) (c : Dev Cert.KernelIdeal.nD)

/-- The kernel's argument `x`, of three. -/
abbrev arg0 : Vec Ideal Cert.KernelIdeal.S24x512x6144 .bf16 := m ((c.tc : Thread Cert.KernelIdeal.nD Cert.KernelIdeal.τ).loc Cert.KernelIdeal.main_arg0)
@[inherit_doc arg0]
abbrev arg1 : Vec Ideal Cert.KernelIdeal.S1024x6144 .i8 := m ((c.tc : Thread Cert.KernelIdeal.nD Cert.KernelIdeal.τ).loc Cert.KernelIdeal.main_arg1)
@[inherit_doc arg0]
abbrev arg2 : Vec Ideal Cert.KernelIdeal.S16x6144 .f32 := m ((c.tc : Thread Cert.KernelIdeal.nD Cert.KernelIdeal.τ).loc Cert.KernelIdeal.main_arg2)

/-- The two programs' first results are one array. -/
theorem dx_eq : val_main_v76 (F := Ideal) (arg0 m c) (arg1 m c) (arg2 m c) = G3 m c := by
  funext i
  rw [Idealize.ShloMosaic.eq_ix2 i]
  exact (v76_apply _ _ _ _ _).trans (G3_apply m c _ _).symm

/-- The two programs' packed codes are one array. -/
theorem codes_eq : val_main_v77 (F := Ideal) (arg0 m c) = G4 m c := by
  funext i
  rw [Idealize.ShloMosaic.eq_ix2 i]
  exact (v77_apply _ _ _).trans (G4_apply m c _ _).symm

/-- The two programs' scales are one array. -/
theorem scales_eq : val_main_v78 (F := Ideal) (arg0 m c) = G5 m c := by
  funext i
  rw [Idealize.ShloMosaic.eq_ix2 i]
  exact (v78_apply _ _ _).trans (G5_apply m c _ _).symm

/-- The two programs' zero points are one array. -/
theorem zeros_eq : val_main_v79 (F := Ideal) (arg0 m c) = G6 m c := by
  funext i
  rw [Idealize.ShloMosaic.eq_ix2 i]
  exact (v79_apply _ _ _).trans (G6_apply m c _ _).symm

end

/-- Over the extended reals the kernel and the reference return the same four arrays. -/
theorem same_results : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Value.G3 m c, fun c => Cert.KernelIdeal.Value.G4 m c, fun c => Cert.KernelIdeal.Value.G5 m c,
    fun c => Cert.KernelIdeal.Value.G6 m c, Cert.KernelIdeal.Value.run m g,
    (θ_run Cert.ReferenceIdeal.defs _ _).mono (fun r h c => by
      obtain ⟨h0, h1, h2, h3, k⟩ := h c
      obtain ⟨e0, e1, e2⟩ := hm c
      rw [Cert.ReferenceIdeal.Read.val_main_v76_eq, e0, e1, e2] at h0
      rw [Cert.ReferenceIdeal.Read.val_main_v77_eq, e0] at h1
      rw [Cert.ReferenceIdeal.Read.val_main_v78_eq, e0] at h2
      rw [Cert.ReferenceIdeal.Read.val_main_v79_eq, e0] at h3
      exact ⟨h0.trans (dx_eq m c), h1.trans (codes_eq m c), h2.trans (scales_eq m c), h3.trans (zeros_eq m c), k⟩)
    (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_results⟩

end Cert.Proof

end
